-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_unmasked [hPre_finite_unmasked : Cert.Pre_finite_unmasked.Facts] (m : (ℓ : Loc Cert.KernelIdeal.nD Cert.KernelIdeal.τ Cert.KernelIdeal.sig) → Buf (Elt Ideal) ℓ) : Prop :=
  ∀ c : Dev Cert.KernelIdeal.nD,
    (Cert.Pre_finite_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_unmasked [hPre_finite_unmasked : Cert.Pre_finite_unmasked.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_unmasked [hKernelIdeal : Cert.KernelIdeal.Facts] [hPre_finite_unmasked : Cert.Pre_finite_unmasked.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_unmasked m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_unmasked [hReferenceIdeal : Cert.ReferenceIdeal.Facts] [hPre_finite_unmasked : Cert.Pre_finite_unmasked.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_unmasked m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_unmasked [hKernelIdeal : Cert.KernelIdeal.Facts] [hReferenceIdeal : Cert.ReferenceIdeal.Facts] [hPre_finite_unmasked : Cert.Pre_finite_unmasked.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_unmasked m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v367) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_unmasked : Cert.Pre_finite_unmasked.Facts),
    quiescent_Kernel (hKernel := hKernel)
    ∧ quiescent_KernelIdeal (hKernelIdeal := hKernelIdeal)
    ∧ quiescent_KernelIdeal_pre_finite_unmasked (hKernelIdeal := hKernelIdeal) (hPre_finite_unmasked := hPre_finite_unmasked)
    ∧ quiescent_ReferenceIdeal (hReferenceIdeal := hReferenceIdeal)
    ∧ quiescent_ReferenceIdeal_pre_finite_unmasked (hReferenceIdeal := hReferenceIdeal) (hPre_finite_unmasked := hPre_finite_unmasked)
    ∧ preserves_Kernel_KernelIdeal
    ∧ algebraic_KernelIdeal_ReferenceIdeal_pre_finite_unmasked (hKernelIdeal := hKernelIdeal) (hReferenceIdeal := hReferenceIdeal) (hPre_finite_unmasked := hPre_finite_unmasked)
-- ==== Pre_finite_unmasked.lean ====
abbrev S4x1024x1024 : Shape := ⟨3, ![4, 1024, 1024]⟩
abbrev S4x1024 : Shape := ⟨2, ![4, 1024]⟩
abbrev S_ : Shape := ⟨0, ![]⟩

class Facts : Prop where
  reducesTo_S4x1024x1024_S4x1024_d2 : S4x1024x1024.ReducesTo [2] S4x1024
  h_S_ : 0 < S_.numel
  bcast_S_S4x1024 : S_.BroadcastsInDim S4x1024 (![] : Fin 0 → Fin S4x1024.rank)
  reducesTo_S4x1024_S_d0_1 : S4x1024.ReducesTo [0, 1] S_

variable [Facts]

def fn {F : FTy → Type} [FloatOps F] (main_arg0 : FVec F S4x1024x1024 .f32) (main_arg1 : IVec S4x1024 1) (main_arg2 : IVec S4x1024 1) (main_arg3 : FVec F S_ .f32) : IVec S_ 1 :=
  let main_cst : FVec F S_ .f32 := constant S_ .f32 0xFF800000#32
  let main_v0 : FVec F S4x1024 .f32 := (fun x v => Host.reduce FloatOps.maximumf x v reducesTo_S4x1024x1024_S4x1024_d2 h_S_) main_arg0 main_cst
  let main_v1 : FVec F S4x1024 .f32 := Host.absf main_v0
  let main_cst_0 : FVec F S_ .f32 := constant S_ .f32 0x7F800000#32
  let main_v2 : FVec F S4x1024 .f32 := broadcastInDim S4x1024 ![] bcast_S_S4x1024 main_cst_0
  let main_v3 : IVec S4x1024 1 := cmpf .olt main_v1 main_v2
  let main_c : IVec S_ 1 := constantI S_ 1 1#1
  let main_v4 : IVec S_ 1 := (fun x v => Host.reduce IntOp.andi x v reducesTo_S4x1024_S_d0_1 h_S_) main_v3 main_c
  let main_v5 : FVec F S_ .f32 := Host.absf main_arg3
  let main_cst_1 : FVec F S_ .f32 := constant S_ .f32 0x7F800000#32
  let main_v6 : IVec S_ 1 := cmpf .olt main_v5 main_cst_1
  let main_v7 : IVec S_ 1 := andi main_v4 main_v6
  let main_c_2 : IVec S_ 1 := constantI S_ 1 1#1
  let main_v8 : IVec S_ 1 := (fun x v => Host.reduce IntOp.andi x v reducesTo_S4x1024_S_d0_1 h_S_) main_arg1 main_c_2
  let main_v9 : IVec S_ 1 := andi main_v7 main_v8
  let main_c_3 : IVec S_ 1 := constantI S_ 1 1#1
  let main_v10 : IVec S_ 1 := (fun x v => Host.reduce IntOp.andi x v reducesTo_S4x1024_S_d0_1 h_S_) main_arg2 main_c_3
  let main_v11 : IVec S_ 1 := andi main_v9 main_v10
  main_v11
-- ==== Kernel.lean ====
abbrev S4x1024x1024 : Shape := ⟨3, ![4, 1024, 1024]⟩
abbrev S4x1024 : Shape := ⟨2, ![4, 1024]⟩
abbrev S_ : Shape := ⟨0, ![]⟩
abbrev S1x1 : Shape := ⟨2, ![1, 1]⟩
abbrev S4x1025x1025 : Shape := ⟨3, ![4, 1025, 1025]⟩
abbrev S2x1024x1024 : Shape := ⟨3, ![2, 1024, 1024]⟩
abbrev S2x1025x1025 : Shape := ⟨3, ![2, 1025, 1025]⟩
abbrev S2x1024 : Shape := ⟨2, ![2, 1024]⟩
abbrev S2x1024x1 : Shape := ⟨3, ![2, 1024, 1]⟩
abbrev S2x1x1024 : Shape := ⟨3, ![2, 1, 1024]⟩
abbrev S2x1x1 : Shape := ⟨3, ![2, 1, 1]⟩
abbrev S2 : Shape := ⟨1, ![2]⟩

abbrev nBuf : Space → Nat
  | .hbm => 6
  | .vmem => 4
  | .smem => 1
  | _ => 0

abbrev bufTy : (tb : Table) → Fin (tcTables nBuf tb) → BufTy
  | .hbm, ⟨0, _⟩ => ⟨S4x1024x1024, .f32⟩
  | .hbm, ⟨1, _⟩ => ⟨S4x1024, .i1⟩
  | .hbm, ⟨2, _⟩ => ⟨S4x1024, .i1⟩
  | .hbm, ⟨3, _⟩ => ⟨S_, .f32⟩
  | .hbm, ⟨4, _⟩ => ⟨S1x1, .f32⟩
  | .hbm, ⟨5, _⟩ => ⟨S4x1025x1025, .f32⟩
  | .local _ .vmem, ⟨0, _⟩ => ⟨S2x1024x1024, .f32⟩
  | .local _ .vmem, ⟨1, _⟩ => ⟨S2x1024x1024, .f32⟩
  | .local _ .vmem, ⟨2, _⟩ => ⟨S2x1025x1025, .f32⟩
  | .local _ .vmem, ⟨3, _⟩ => ⟨S2x1025x1025, .f32⟩
  | .local _ .smem, ⟨0, _⟩ => ⟨S1x1, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1025x1025 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4x1024x1024 : Shape := ⟨3, ![4, 1024, 1024]⟩
abbrev S4x1024 : Shape := ⟨2, ![4, 1024]⟩
abbrev S_ : Shape := ⟨0, ![]⟩
abbrev S4x1 : Shape := ⟨2, ![4, 1]⟩
abbrev S4x1025 : Shape := ⟨2, ![4, 1025]⟩
abbrev S4x1025x1 : Shape := ⟨3, ![4, 1025, 1]⟩
abbrev S4x1x1025 : Shape := ⟨3, ![4, 1, 1025]⟩
abbrev S4x1025x1025 : Shape := ⟨3, ![4, 1025, 1025]⟩
abbrev S4x1024x1 : Shape := ⟨3, ![4, 1024, 1]⟩
abbrev S4x1024x1025 : Shape := ⟨3, ![4, 1024, 1025]⟩
abbrev S4 : Shape := ⟨1, ![4]⟩
abbrev S4x1x1 : Shape := ⟨3, ![4, 1, 1]⟩

abbrev nBuf : Space → Nat
  | .hbm => 507
  | .vmem => 0
  | .smem => 0
  | _ => 0

abbrev hbmTy0_0 (i : Nat) : BufTy := match i % 128 with
  | 0 => ⟨S4x1024x1024, .f32⟩
  | 1 => ⟨S4x1024, .i1⟩
  | 2 => ⟨S4x1024, .i1⟩
  | 3 => ⟨S_, .f32⟩
  | 4 => ⟨S4x1024, .i1⟩
  | 5 => ⟨S_, .i1⟩
  | 6 => ⟨S4x1, .i1⟩
  | 7 => ⟨S4x1025, .i1⟩
  | 8 => ⟨S4x1024, .i1⟩
  | 9 => ⟨S_, .i1⟩
  | 10 => ⟨S4x1, .i1⟩
  | 11 => ⟨S4x1025, .i1⟩
  | 12 => ⟨S4x1025x1, .i1⟩
  | 13 => ⟨S4x1x1025, .i1⟩
  | 14 => ⟨S4x1025x1025, .i1⟩
  | 15 => ⟨S4x1025x1025, .i1⟩
  | 16 => ⟨S4x1025x1025, .i1⟩
  | 17 => ⟨S4x1024x1, .f32⟩
  | 18 => ⟨S4x1x1025, .f32⟩
  | 19 => ⟨S4x1024x1025, .f32⟩
  | 20 => ⟨S4x1025x1025, .f32⟩
  | 21 => ⟨S_, .f32⟩
  | 22 => ⟨S_, .f32⟩
  | 23 => ⟨S4x1025x1025, .f32⟩
  | 24 => ⟨S4x1025x1025, .f32⟩
  | 25 => ⟨S4x1024, .f32⟩
  | 26 => ⟨S_, .f32⟩
  | 27 => ⟨S4, .f32⟩
  | 28 => ⟨S4x1024, .f32⟩
  | 29 => ⟨S_, .f32⟩
  | 30 => ⟨S4, .f32⟩
  | 31 => ⟨S4, .f32⟩
  | 32 => ⟨S4, .f32⟩
  | 33 => ⟨S4, .f32⟩
  | 34 => ⟨S4x1, .f32⟩
  | 35 => ⟨S4x1024, .f32⟩
  | 36 => ⟨S4, .f32⟩
  | 37 => ⟨S4, .f32⟩
  | 38 => ⟨S4x1, .f32⟩
  | 39 => ⟨S4x1025, .f32⟩
  | 40 => ⟨S_, .f32⟩
  | 41 => ⟨S_, .f32⟩
  | 42 => ⟨S4x1025, .f32⟩
  | 43 => ⟨S4x1025, .f32⟩
  | 44 => ⟨S4x1, .f32⟩
  | 45 => ⟨S4x1024, .f32⟩
  | 46 => ⟨S4, .f32⟩
  | 47 => ⟨S4, .f32⟩
  | 48 => ⟨S4x1, .f32⟩
  | 49 => ⟨S4x1025, .f32⟩
  | 50 => ⟨S_, .f32⟩
  | 51 => ⟨S_, .f32⟩
  | 52 => ⟨S4x1025, .f32⟩
  | 53 => ⟨S4x1025, .f32⟩
  | 54 => ⟨S_, .f32⟩
  | 55 => ⟨S4x1025, .f32⟩
  | 56 => ⟨S_, .f32⟩
  | 57 => ⟨S4x1025, .f32⟩
  | 58 => ⟨S4x1x1025, .f32⟩
  | 59 => ⟨S4x1025x1025, .f32⟩
  | 60 => ⟨S4x1025x1025, .f32⟩
  | 61 => ⟨S_, .f32⟩
  | 62 => ⟨S4x1025, .f32⟩
  | 63 => ⟨S4x1025, .f32⟩
  | 64 => ⟨S_, .f32⟩
  | 65 => ⟨S4x1025, .f32⟩
  | 66 => ⟨S4x1025, .i1⟩
  | 67 => ⟨S_, .f32⟩
  | 68 => ⟨S_, .f32⟩
  | 69 => ⟨S4x1025, .f32⟩
  | 70 => ⟨S4x1025, .f32⟩
  | 71 => ⟨S4x1025x1, .f32⟩
  | 72 => ⟨S4x1025x1025, .f32⟩
  | 73 => ⟨S4x1025x1025, .f32⟩
  | 74 => ⟨S4x1025x1025, .f32⟩
  | 75 => ⟨S_, .f32⟩
  | 76 => ⟨S4x1025, .f32⟩
  | 77 => ⟨S4x1025, .f32⟩
  | 78 => ⟨S4x1025, .f32⟩
  | 79 => ⟨S4x1025, .f32⟩
  | 80 => ⟨S4x1025x1, .f32⟩
  | 81 => ⟨S4x1025x1025, .f32⟩
  | 82 => ⟨S4x1025x1025, .f32⟩
  | 83 => ⟨S_, .f32⟩
  | 84 => ⟨S4x1025, .f32⟩
  | 85 => ⟨S4x1025, .f32⟩
  | 86 => ⟨S_, .f32⟩
  | 87 => ⟨S4x1025, .f32⟩
  | 88 => ⟨S4x1025, .i1⟩
  | 89 => ⟨S_, .f32⟩
  | 90 => ⟨S_, .f32⟩
  | 91 => ⟨S4x1025, .f32⟩
  | 92 => ⟨S4x1025, .f32⟩
  | 93 => ⟨S4x1x1025, .f32⟩
  | 94 => ⟨S4x1025x1025, .f32⟩
  | 95 => ⟨S4x1025x1025, .f32⟩
  | 96 => ⟨S4x1025x1025, .f32⟩
  | 97 => ⟨S_, .f32⟩
  | 98 => ⟨S4x1025, .f32⟩
  | 99 => ⟨S4x1025, .f32⟩
  | 100 => ⟨S4x1025, .f32⟩
  | 101 => ⟨S4x1025, .f32⟩
  | 102 => ⟨S4x1x1025, .f32⟩
  | 103 => ⟨S4x1025x1025, .f32⟩
  | 104 => ⟨S4x1025x1025, .f32⟩
  | 105 => ⟨S_, .f32⟩
  | 106 => ⟨S4x1025, .f32⟩
  | 107 => ⟨S4x1025, .f32⟩
  | 108 => ⟨S_, .f32⟩
  | 109 => ⟨S4x1025, .f32⟩
  | 110 => ⟨S4x1025, .i1⟩
  | 111 => ⟨S_, .f32⟩
  | 112 => ⟨S_, .f32⟩
  | 113 => ⟨S4x1025, .f32⟩
  | 114 => ⟨S4x1025, .f32⟩
  | 115 => ⟨S4x1025x1, .f32⟩
  | 116 => ⟨S4x1025x1025, .f32⟩
  | 117 => ⟨S4x1025x1025, .f32⟩
  | 118 => ⟨S4x1025x1025, .f32⟩
  | 119 => ⟨S_, .f32⟩
  | 120 => ⟨S4x1025, .f32⟩
  | 121 => ⟨S4x1025, .f32⟩
  | 122 => ⟨S4x1025, .f32⟩
  | 123 => ⟨S4x1025, .f32⟩
  | 124 => ⟨S4x1025x1, .f32⟩
  | 125 => ⟨S4x1025x1025, .f32⟩
  | 126 => ⟨S4x1025x1025, .f32⟩
  | 127 => ⟨S_, .f32⟩
  | _ => ⟨S4x1024x1024, .f32⟩

abbrev hbmTy0_1 (i : Nat) : BufTy := match i % 128 with
  | 0 => ⟨S4x1025, .f32⟩
  | 1 => ⟨S4x1025, .f32⟩
  | 2 => ⟨S_, .f32⟩
  | 3 => ⟨S4x1025, .f32⟩
  | 4 => ⟨S4x1025, .i1⟩
  | 5 => ⟨S_, .f32⟩
  | 6 => ⟨S_, .f32⟩
  | 7 => ⟨S4x1025, .f32⟩
  | 8 => ⟨S4x1025, .f32⟩
  | 9 => ⟨S4x1x1025, .f32⟩
  | 10 => ⟨S4x1025x1025, .f32⟩
  | 11 => ⟨S4x1025x1025, .f32⟩
  | 12 => ⟨S4x1025x1025, .f32⟩
  | 13 => ⟨S_, .f32⟩
  | 14 => ⟨S4x1025, .f32⟩
  | 15 => ⟨S4x1025, .f32⟩
  | 16 => ⟨S4x1025, .f32⟩
  | 17 => ⟨S4x1025, .f32⟩
  | 18 => ⟨S4x1x1025, .f32⟩
  | 19 => ⟨S4x1025x1025, .f32⟩
  | 20 => ⟨S4x1025x1025, .f32⟩
  | 21 => ⟨S_, .f32⟩
  | 22 => ⟨S4x1025, .f32⟩
  | 23 => ⟨S4x1025, .f32⟩
  | 24 => ⟨S_, .f32⟩
  | 25 => ⟨S4x1025, .f32⟩
  | 26 => ⟨S4x1025, .i1⟩
  | 27 => ⟨S_, .f32⟩
  | 28 => ⟨S_, .f32⟩
  | 29 => ⟨S4x1025, .f32⟩
  | 30 => ⟨S4x1025, .f32⟩
  | 31 => ⟨S4x1025x1, .f32⟩
  | 32 => ⟨S4x1025x1025, .f32⟩
  | 33 => ⟨S4x1025x1025, .f32⟩
  | 34 => ⟨S4x1025x1025, .f32⟩
  | 35 => ⟨S_, .f32⟩
  | 36 => ⟨S4x1025, .f32⟩
  | 37 => ⟨S4x1025, .f32⟩
  | 38 => ⟨S4x1025, .f32⟩
  | 39 => ⟨S4x1025, .f32⟩
  | 40 => ⟨S4x1025x1, .f32⟩
  | 41 => ⟨S4x1025x1025, .f32⟩
  | 42 => ⟨S4x1025x1025, .f32⟩
  | 43 => ⟨S_, .f32⟩
  | 44 => ⟨S4x1025, .f32⟩
  | 45 => ⟨S4x1025, .f32⟩
  | 46 => ⟨S_, .f32⟩
  | 47 => ⟨S4x1025, .f32⟩
  | 48 => ⟨S4x1025, .i1⟩
  | 49 => ⟨S_, .f32⟩
  | 50 => ⟨S_, .f32⟩
  | 51 => ⟨S4x1025, .f32⟩
  | 52 => ⟨S4x1025, .f32⟩
  | 53 => ⟨S4x1x1025, .f32⟩
  | 54 => ⟨S4x1025x1025, .f32⟩
  | 55 => ⟨S4x1025x1025, .f32⟩
  | 56 => ⟨S4x1025x1025, .f32⟩
  | 57 => ⟨S_, .f32⟩
  | 58 => ⟨S4x1025, .f32⟩
  | 59 => ⟨S4x1025, .f32⟩
  | 60 => ⟨S4x1025, .f32⟩
  | 61 => ⟨S4x1025, .f32⟩
  | 62 => ⟨S4x1x1025, .f32⟩
  | 63 => ⟨S4x1025x1025, .f32⟩
  | 64 => ⟨S4x1025x1025, .f32⟩
  | 65 => ⟨S_, .f32⟩
  | 66 => ⟨S4x1025, .f32⟩
  | 67 => ⟨S4x1025, .f32⟩
  | 68 => ⟨S_, .f32⟩
  | 69 => ⟨S4x1025, .f32⟩
  | 70 => ⟨S4x1025, .i1⟩
  | 71 => ⟨S_, .f32⟩
  | 72 => ⟨S_, .f32⟩
  | 73 => ⟨S4x1025, .f32⟩
  | 74 => ⟨S4x1025, .f32⟩
  | 75 => ⟨S4x1025x1, .f32⟩
  | 76 => ⟨S4x1025x1025, .f32⟩
  | 77 => ⟨S4x1025x1025, .f32⟩
  | 78 => ⟨S4x1025x1025, .f32⟩
  | 79 => ⟨S_, .f32⟩
  | 80 => ⟨S4x1025, .f32⟩
  | 81 => ⟨S4x1025, .f32⟩
  | 82 => ⟨S4x1025, .f32⟩
  | 83 => ⟨S4x1025, .f32⟩
  | 84 => ⟨S4x1025x1, .f32⟩
  | 85 => ⟨S4x1025x1025, .f32⟩
  | 86 => ⟨S4x1025x1025, .f32⟩
  | 87 => ⟨S_, .f32⟩
  | 88 => ⟨S4x1025, .f32⟩
  | 89 => ⟨S4x1025, .f32⟩
  | 90 => ⟨S_, .f32⟩
  | 91 => ⟨S4x1025, .f32⟩
  | 92 => ⟨S4x1025, .i1⟩
  | 93 => ⟨S_, .f32⟩
  | 94 => ⟨S_, .f32⟩
  | 95 => ⟨S4x1025, .f32⟩
  | 96 => ⟨S4x1025, .f32⟩
  | 97 => ⟨S4x1x1025, .f32⟩
  | 98 => ⟨S4x1025x1025, .f32⟩
  | 99 => ⟨S4x1025x1025, .f32⟩
  | 100 => ⟨S4x1025x1025, .f32⟩
  | 101 => ⟨S_, .f32⟩
  | 102 => ⟨S4x1025, .f32⟩
  | 103 => ⟨S4x1025, .f32⟩
  | 104 => ⟨S4x1025, .f32⟩
  | 105 => ⟨S4x1025, .f32⟩
  | 106 => ⟨S4x1x1025, .f32⟩
  | 107 => ⟨S4x1025x1025, .f32⟩
  | 108 => ⟨S4x1025x1025, .f32⟩
  | 109 => ⟨S_, .f32⟩
  | 110 => ⟨S4x1025, .f32⟩
  | 111 => ⟨S4x1025, .f32⟩
  | 112 => ⟨S_, .f32⟩
  | 113 => ⟨S4x1025, .f32⟩
  | 114 => ⟨S4x1025, .i1⟩
  | 115 => ⟨S_, .f32⟩
  | 116 => ⟨S_, .f32⟩
  | 117 => ⟨S4x1025, .f32⟩
  | 118 => ⟨S4x1025, .f32⟩
  | 119 => ⟨S4x1025x1, .f32⟩
  | 120 => ⟨S4x1025x1025, .f32⟩
  | 121 => ⟨S4x1025x1025, .f32⟩
  | 122 => ⟨S4x1025x1025, .f32⟩
  | 123 => ⟨S_, .f32⟩
  | 124 => ⟨S4x1025, .f32⟩
  | 125 => ⟨S4x1025, .f32⟩
  | 126 => ⟨S4x1025, .f32⟩
  | 127 => ⟨S4x1025, .f32⟩
  | _ => ⟨S4x1024x1024, .f32⟩

abbrev hbmTy0_2 (i : Nat) : BufTy := match i % 128 with
  | 0 => ⟨S4x1025x1, .f32⟩
  | 1 => ⟨S4x1025x1025, .f32⟩
  | 2 => ⟨S4x1025x1025, .f32⟩
  | 3 => ⟨S_, .f32⟩
  | 4 => ⟨S4x1025, .f32⟩
  | 5 => ⟨S4x1025, .f32⟩
  | 6 => ⟨S_, .f32⟩
  | 7 => ⟨S4x1025, .f32⟩
  | 8 => ⟨S4x1025, .i1⟩
  | 9 => ⟨S_, .f32⟩
  | 10 => ⟨S_, .f32⟩
  | 11 => ⟨S4x1025, .f32⟩
  | 12 => ⟨S4x1025, .f32⟩
  | 13 => ⟨S4x1x1025, .f32⟩
  | 14 => ⟨S4x1025x1025, .f32⟩
  | 15 => ⟨S4x1025x1025, .f32⟩
  | 16 => ⟨S4x1025x1025, .f32⟩
  | 17 => ⟨S_, .f32⟩
  | 18 => ⟨S4x1025, .f32⟩
  | 19 => ⟨S4x1025, .f32⟩
  | 20 => ⟨S4x1025, .f32⟩
  | 21 => ⟨S4x1025, .f32⟩
  | 22 => ⟨S4x1x1025, .f32⟩
  | 23 => ⟨S4x1025x1025, .f32⟩
  | 24 => ⟨S4x1025x1025, .f32⟩
  | 25 => ⟨S_, .f32⟩
  | 26 => ⟨S4x1025, .f32⟩
  | 27 => ⟨S4x1025, .f32⟩
  | 28 => ⟨S_, .f32⟩
  | 29 => ⟨S4x1025, .f32⟩
  | 30 => ⟨S4x1025, .i1⟩
  | 31 => ⟨S_, .f32⟩
  | 32 => ⟨S_, .f32⟩
  | 33 => ⟨S4x1025, .f32⟩
  | 34 => ⟨S4x1025, .f32⟩
  | 35 => ⟨S4x1025x1, .f32⟩
  | 36 => ⟨S4x1025x1025, .f32⟩
  | 37 => ⟨S4x1025x1025, .f32⟩
  | 38 => ⟨S4x1025x1025, .f32⟩
  | 39 => ⟨S_, .f32⟩
  | 40 => ⟨S4x1025, .f32⟩
  | 41 => ⟨S4x1025, .f32⟩
  | 42 => ⟨S4x1025, .f32⟩
  | 43 => ⟨S4x1025, .f32⟩
  | 44 => ⟨S4x1025x1, .f32⟩
  | 45 => ⟨S4x1025x1025, .f32⟩
  | 46 => ⟨S4x1025x1025, .f32⟩
  | 47 => ⟨S_, .f32⟩
  | 48 => ⟨S4x1025, .f32⟩
  | 49 => ⟨S4x1025, .f32⟩
  | 50 => ⟨S_, .f32⟩
  | 51 => ⟨S4x1025, .f32⟩
  | 52 => ⟨S4x1025, .i1⟩
  | 53 => ⟨S_, .f32⟩
  | 54 => ⟨S_, .f32⟩
  | 55 => ⟨S4x1025, .f32⟩
  | 56 => ⟨S4x1025, .f32⟩
  | 57 => ⟨S4x1x1025, .f32⟩
  | 58 => ⟨S4x1025x1025, .f32⟩
  | 59 => ⟨S4x1025x1025, .f32⟩
  | 60 => ⟨S4x1025x1025, .f32⟩
  | 61 => ⟨S_, .f32⟩
  | 62 => ⟨S4x1025, .f32⟩
  | 63 => ⟨S4x1025, .f32⟩
  | 64 => ⟨S4x1025, .f32⟩
  | 65 => ⟨S4x1025, .f32⟩
  | 66 => ⟨S4x1x1025, .f32⟩
  | 67 => ⟨S4x1025x1025, .f32⟩
  | 68 => ⟨S4x1025x1025, .f32⟩
  | 69 => ⟨S_, .f32⟩
  | 70 => ⟨S4x1025, .f32⟩
  | 71 => ⟨S4x1025, .f32⟩
  | 72 => ⟨S_, .f32⟩
  | 73 => ⟨S4x1025, .f32⟩
  | 74 => ⟨S4x1025, .i1⟩
  | 75 => ⟨S_, .f32⟩
  | 76 => ⟨S_, .f32⟩
  | 77 => ⟨S4x1025, .f32⟩
  | 78 => ⟨S4x1025, .f32⟩
  | 79 => ⟨S4x1025x1, .f32⟩
  | 80 => ⟨S4x1025x1025, .f32⟩
  | 81 => ⟨S4x1025x1025, .f32⟩
  | 82 => ⟨S4x1025x1025, .f32⟩
  | 83 => ⟨S_, .f32⟩
  | 84 => ⟨S4x1025, .f32⟩
  | 85 => ⟨S4x1025, .f32⟩
  | 86 => ⟨S4x1025, .f32⟩
  | 87 => ⟨S4x1025, .f32⟩
  | 88 => ⟨S4x1025x1, .f32⟩
  | 89 => ⟨S4x1025x1025, .f32⟩
  | 90 => ⟨S4x1025x1025, .f32⟩
  | 91 => ⟨S_, .f32⟩
  | 92 => ⟨S4x1025, .f32⟩
  | 93 => ⟨S4x1025, .f32⟩
  | 94 => ⟨S_, .f32⟩
  | 95 => ⟨S4x1025, .f32⟩
  | 96 => ⟨S4x1025, .i1⟩
  | 97 => ⟨S_, .f32⟩
  | 98 => ⟨S_, .f32⟩
  | 99 => ⟨S4x1025, .f32⟩
  | 100 => ⟨S4x1025, .f32⟩
  | 101 => ⟨S4x1x1025, .f32⟩
  | 102 => ⟨S4x1025x1025, .f32⟩
  | 103 => ⟨S4x1025x1025, .f32⟩
  | 104 => ⟨S4x1025x1025, .f32⟩
  | 105 => ⟨S_, .f32⟩
  | 106 => ⟨S4x1025, .f32⟩
  | 107 => ⟨S4x1025, .f32⟩
  | 108 => ⟨S4x1025, .f32⟩
  | 109 => ⟨S4x1025, .f32⟩
  | 110 => ⟨S4x1x1025, .f32⟩
  | 111 => ⟨S4x1025x1025, .f32⟩
  | 112 => ⟨S4x1025x1025, .f32⟩
  | 113 => ⟨S_, .f32⟩
  | 114 => ⟨S4x1025, .f32⟩
  | 115 => ⟨S4x1025, .f32⟩
  | 116 => ⟨S_, .f32⟩
  | 117 => ⟨S4x1025, .f32⟩
  | 118 => ⟨S4x1025, .i1⟩
  | 119 => ⟨S_, .f32⟩
  | 120 => ⟨S_, .f32⟩
  | 121 => ⟨S4x1025, .f32⟩
  | 122 => ⟨S4x1025, .f32⟩
  | 123 => ⟨S4x1025x1, .f32⟩
  | 124 => ⟨S4x1025x1025, .f32⟩
  | 125 => ⟨S4x1025x1025, .f32⟩
  | 126 => ⟨S4x1025x1025, .f32⟩
  | 127 => ⟨S_, .f32⟩
  | _ => ⟨S4x1024x1024, .f32⟩

abbrev hbmTy0_3 (i : Nat) : BufTy := match i % 128 with
  | 0 => ⟨S4x1025, .f32⟩
  | 1 => ⟨S4x1025, .f32⟩
  | 2 => ⟨S4x1025, .f32⟩
  | 3 => ⟨S4x1025, .f32⟩
  | 4 => ⟨S4x1025x1, .f32⟩
  | 5 => ⟨S4x1025x1025, .f32⟩
  | 6 => ⟨S4x1025x1025, .f32⟩
  | 7 => ⟨S_, .f32⟩
  | 8 => ⟨S4x1025, .f32⟩
  | 9 => ⟨S4x1025, .f32⟩
  | 10 => ⟨S_, .f32⟩
  | 11 => ⟨S4x1025, .f32⟩
  | 12 => ⟨S4x1025, .i1⟩
  | 13 => ⟨S_, .f32⟩
  | 14 => ⟨S_, .f32⟩
  | 15 => ⟨S4x1025, .f32⟩
  | 16 => ⟨S4x1025, .f32⟩
  | 17 => ⟨S4x1x1025, .f32⟩
  | 18 => ⟨S4x1025x1025, .f32⟩
  | 19 => ⟨S4x1025x1025, .f32⟩
  | 20 => ⟨S4x1025x1025, .f32⟩
  | 21 => ⟨S_, .f32⟩
  | 22 => ⟨S4x1025, .f32⟩
  | 23 => ⟨S4x1025, .f32⟩
  | 24 => ⟨S4x1025, .f32⟩
  | 25 => ⟨S4x1025, .f32⟩
  | 26 => ⟨S4x1x1025, .f32⟩
  | 27 => ⟨S4x1025x1025, .f32⟩
  | 28 => ⟨S4x1025x1025, .f32⟩
  | 29 => ⟨S_, .f32⟩
  | 30 => ⟨S4x1025, .f32⟩
  | 31 => ⟨S4x1025, .f32⟩
  | 32 => ⟨S_, .f32⟩
  | 33 => ⟨S4x1025, .f32⟩
  | 34 => ⟨S4x1025, .i1⟩
  | 35 => ⟨S_, .f32⟩
  | 36 => ⟨S_, .f32⟩
  | 37 => ⟨S4x1025, .f32⟩
  | 38 => ⟨S4x1025, .f32⟩
  | 39 => ⟨S4x1025x1, .f32⟩
  | 40 => ⟨S4x1025x1025, .f32⟩
  | 41 => ⟨S4x1025x1025, .f32⟩
  | 42 => ⟨S4x1025x1025, .f32⟩
  | 43 => ⟨S_, .f32⟩
  | 44 => ⟨S4x1025, .f32⟩
  | 45 => ⟨S4x1025, .f32⟩
  | 46 => ⟨S4x1025, .f32⟩
  | 47 => ⟨S4x1025, .f32⟩
  | 48 => ⟨S4x1025x1, .f32⟩
  | 49 => ⟨S4x1025x1025, .f32⟩
  | 50 => ⟨S4x1025x1025, .f32⟩
  | 51 => ⟨S_, .f32⟩
  | 52 => ⟨S4x1025, .f32⟩
  | 53 => ⟨S4x1025, .f32⟩
  | 54 => ⟨S_, .f32⟩
  | 55 => ⟨S4x1025, .f32⟩
  | 56 => ⟨S4x1025, .i1⟩
  | 57 => ⟨S_, .f32⟩
  | 58 => ⟨S_, .f32⟩
  | 59 => ⟨S4x1025, .f32⟩
  | 60 => ⟨S4x1025, .f32⟩
  | 61 => ⟨S4x1x1025, .f32⟩
  | 62 => ⟨S4x1025x1025, .f32⟩
  | 63 => ⟨S4x1025x1025, .f32⟩
  | 64 => ⟨S4x1025x1025, .f32⟩
  | 65 => ⟨S_, .f32⟩
  | 66 => ⟨S4x1025, .f32⟩
  | 67 => ⟨S4x1025, .f32⟩
  | 68 => ⟨S4x1025, .f32⟩
  | 69 => ⟨S4x1025, .f32⟩
  | 70 => ⟨S4x1x1025, .f32⟩
  | 71 => ⟨S4x1025x1025, .f32⟩
  | 72 => ⟨S4x1025x1025, .f32⟩
  | 73 => ⟨S_, .f32⟩
  | 74 => ⟨S4x1025, .f32⟩
  | 75 => ⟨S4x1025, .f32⟩
  | 76 => ⟨S_, .f32⟩
  | 77 => ⟨S4x1025, .f32⟩
  | 78 => ⟨S4x1025, .i1⟩
  | 79 => ⟨S_, .f32⟩
  | 80 => ⟨S_, .f32⟩
  | 81 => ⟨S4x1025, .f32⟩
  | 82 => ⟨S4x1025, .f32⟩
  | 83 => ⟨S4x1025x1, .f32⟩
  | 84 => ⟨S4x1025x1025, .f32⟩
  | 85 => ⟨S4x1025x1025, .f32⟩
  | 86 => ⟨S4x1025x1025, .f32⟩
  | 87 => ⟨S_, .f32⟩
  | 88 => ⟨S4x1025, .f32⟩
  | 89 => ⟨S4x1025, .f32⟩
  | 90 => ⟨S4x1025, .f32⟩
  | 91 => ⟨S4x1025, .f32⟩
  | 92 => ⟨S4x1025x1, .f32⟩
  | 93 => ⟨S4x1025x1025, .f32⟩
  | 94 => ⟨S4x1025x1025, .f32⟩
  | 95 => ⟨S_, .f32⟩
  | 96 => ⟨S4x1025, .f32⟩
  | 97 => ⟨S4x1025, .f32⟩
  | 98 => ⟨S_, .f32⟩
  | 99 => ⟨S4x1025, .f32⟩
  | 100 => ⟨S4x1025, .i1⟩
  | 101 => ⟨S_, .f32⟩
  | 102 => ⟨S_, .f32⟩
  | 103 => ⟨S4x1025, .f32⟩
  | 104 => ⟨S4x1025, .f32⟩
  | 105 => ⟨S4x1x1025, .f32⟩
  | 106 => ⟨S4x1025x1025, .f32⟩
  | 107 => ⟨S4x1025x1025, .f32⟩
  | 108 => ⟨S4x1025x1025, .f32⟩
  | 109 => ⟨S_, .f32⟩
  | 110 => ⟨S4x1025, .f32⟩
  | 111 => ⟨S4x1025, .f32⟩
  | 112 => ⟨S4x1025, .f32⟩
  | 113 => ⟨S4x1025, .f32⟩
  | 114 => ⟨S4x1025x1, .f32⟩
  | 115 => ⟨S4x1025x1025, .f32⟩
  | 116 => ⟨S4x1025x1025, .f32⟩
  | 117 => ⟨S4x1x1025, .f32⟩
  | 118 => ⟨S4x1025x1025, .f32⟩
  | 119 => ⟨S4x1025x1025, .f32⟩
  | 120 => ⟨S4x1x1, .f32⟩
  | 121 => ⟨S4x1025x1025, .f32⟩
  | 122 => ⟨S4x1025x1025, .f32⟩
  | _ => ⟨S4x1024x1024, .f32⟩

abbrev hbmTy (i : Nat) : BufTy := match i / 128 with
  | 0 => hbmTy0_0 i
  | 1 => hbmTy0_1 i
  | 2 => hbmTy0_2 i
  | 3 => hbmTy0_3 i
  | _ => ⟨S4x1024x1024, .f32⟩

abbrev bufTy : (tb : Table) → Fin (tcTables nBuf tb) → BufTy
  | .hbm, ⟨i, _⟩ => hbmTy i
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_call0_v0 : Ref sig .tc := ⟨.hbm, 22, rfl⟩
abbrev main_call0_v1 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_call1_v0 : Ref sig .tc := ⟨.hbm, 41, rfl⟩
abbrev main_call1_v1 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_4 : Ref sig .tc := ⟨.hbm, 50, rfl⟩
abbrev main_call2_v0 : Ref sig .tc := ⟨.hbm, 51, rfl⟩
abbrev main_call2_v1 : Ref sig .tc := ⟨.hbm, 52, rfl⟩
abbrev main_v36 : Ref sig .tc := ⟨.hbm, 53, rfl⟩
abbrev main_cst_5 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_call3_v0 : Ref sig .tc := ⟨.hbm, 68, rfl⟩
abbrev main_call3_v1 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_11 : Ref sig .tc := ⟨.hbm, 83, rfl⟩
abbrev main_v58 : Ref sig .tc := ⟨.hbm, 84, rfl⟩
abbrev main_v59 : Ref sig .tc := ⟨.hbm, 85, rfl⟩
abbrev main_cst_12 : Ref sig .tc := ⟨.hbm, 86, rfl⟩
abbrev main_v60 : Ref sig .tc := ⟨.hbm, 87, rfl⟩
abbrev main_v61 : Ref sig .tc := ⟨.hbm, 88, rfl⟩
abbrev main_cst_13 : Ref sig .tc := ⟨.hbm, 89, rfl⟩
abbrev main_call4_v0 : Ref sig .tc := ⟨.hbm, 90, rfl⟩
abbrev main_call4_v1 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_14 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_15 : Ref sig .tc := ⟨.hbm, 105, rfl⟩
abbrev main_v74 : Ref sig .tc := ⟨.hbm, 106, rfl⟩
abbrev main_v75 : Ref sig .tc := ⟨.hbm, 107, rfl⟩
abbrev main_cst_16 : Ref sig .tc := ⟨.hbm, 108, rfl⟩
abbrev main_v76 : Ref sig .tc := ⟨.hbm, 109, rfl⟩
abbrev main_v77 : Ref sig .tc := ⟨.hbm, 110, rfl⟩
abbrev main_cst_17 : Ref sig .tc := ⟨.hbm, 111, rfl⟩
abbrev main_call5_v0 : Ref sig .tc := ⟨.hbm, 112, rfl⟩
abbrev main_call5_v1 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_cst_18 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_19 : Ref sig .tc := ⟨.hbm, 127, rfl⟩
abbrev main_v90 : Ref sig .tc := ⟨.hbm, 128, rfl⟩
abbrev main_v91 : Ref sig .tc := ⟨.hbm, 129, rfl⟩
abbrev main_cst_20 : Ref sig .tc := ⟨.hbm, 130, rfl⟩
abbrev main_v92 : Ref sig .tc := ⟨.hbm, 131, rfl⟩
abbrev main_v93 : Ref sig .tc := ⟨.hbm, 132, rfl⟩
abbrev main_cst_21 : Ref sig .tc := ⟨.hbm, 133, rfl⟩
abbrev main_call6_v0 : Ref sig .tc := ⟨.hbm, 134, rfl⟩
abbrev main_call6_v1 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_cst_22 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_cst_23 : Ref sig .tc := ⟨.hbm, 149, rfl⟩
abbrev main_v106 : Ref sig .tc := ⟨.hbm, 150, rfl⟩
abbrev main_v107 : Ref sig .tc := ⟨.hbm, 151, rfl⟩
abbrev main_cst_24 : Ref sig .tc := ⟨.hbm, 152, rfl⟩
abbrev main_v108 : Ref sig .tc := ⟨.hbm, 153, rfl⟩
abbrev main_v109 : Ref sig .tc := ⟨.hbm, 154, rfl⟩
abbrev main_cst_25 : Ref sig .tc := ⟨.hbm, 155, rfl⟩
abbrev main_call7_v0 : Ref sig .tc := ⟨.hbm, 156, rfl⟩
abbrev main_call7_v1 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_cst_26 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_cst_27 : Ref sig .tc := ⟨.hbm, 171, rfl⟩
abbrev main_v122 : Ref sig .tc := ⟨.hbm, 172, rfl⟩
abbrev main_v123 : Ref sig .tc := ⟨.hbm, 173, rfl⟩
abbrev main_cst_28 : Ref sig .tc := ⟨.hbm, 174, rfl⟩
abbrev main_v124 : Ref sig .tc := ⟨.hbm, 175, rfl⟩
abbrev main_v125 : Ref sig .tc := ⟨.hbm, 176, rfl⟩
abbrev main_cst_29 : Ref sig .tc := ⟨.hbm, 177, rfl⟩
abbrev main_call8_v0 : Ref sig .tc := ⟨.hbm, 178, rfl⟩
abbrev main_call8_v1 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_cst_30 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_cst_31 : Ref sig .tc := ⟨.hbm, 193, rfl⟩
abbrev main_v138 : Ref sig .tc := ⟨.hbm, 194, rfl⟩
abbrev main_v139 : Ref sig .tc := ⟨.hbm, 195, rfl⟩
abbrev main_cst_32 : Ref sig .tc := ⟨.hbm, 196, rfl⟩
abbrev main_v140 : Ref sig .tc := ⟨.hbm, 197, rfl⟩
abbrev main_v141 : Ref sig .tc := ⟨.hbm, 198, rfl⟩
abbrev main_cst_33 : Ref sig .tc := ⟨.hbm, 199, rfl⟩
abbrev main_call9_v0 : Ref sig .tc := ⟨.hbm, 200, rfl⟩
abbrev main_call9_v1 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_cst_34 : Ref sig .tc := ⟨.hbm, 207, rfl⟩
abbrev main_v147 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_cst_35 : Ref sig .tc := ⟨.hbm, 215, rfl⟩
abbrev main_v154 : Ref sig .tc := ⟨.hbm, 216, rfl⟩
abbrev main_v155 : Ref sig .tc := ⟨.hbm, 217, rfl⟩
abbrev main_cst_36 : Ref sig .tc := ⟨.hbm, 218, rfl⟩
abbrev main_v156 : Ref sig .tc := ⟨.hbm, 219, rfl⟩
abbrev main_v157 : Ref sig .tc := ⟨.hbm, 220, rfl⟩
abbrev main_cst_37 : Ref sig .tc := ⟨.hbm, 221, rfl⟩
abbrev main_call10_v0 : Ref sig .tc := ⟨.hbm, 222, rfl⟩
abbrev main_call10_v1 : Ref sig .tc := ⟨.hbm, 223, rfl⟩
abbrev main_v158 : Ref sig .tc := ⟨.hbm, 224, rfl⟩
abbrev main_v159 : Ref sig .tc := ⟨.hbm, 225, rfl⟩
abbrev main_v160 : Ref sig .tc := ⟨.hbm, 226, rfl⟩
abbrev main_v161 : Ref sig .tc := ⟨.hbm, 227, rfl⟩
abbrev main_v162 : Ref sig .tc := ⟨.hbm, 228, rfl⟩
abbrev main_cst_38 : Ref sig .tc := ⟨.hbm, 229, rfl⟩
abbrev main_v163 : Ref sig .tc := ⟨.hbm, 230, rfl⟩
abbrev main_v164 : Ref sig .tc := ⟨.hbm, 231, rfl⟩
abbrev main_v165 : Ref sig .tc := ⟨.hbm, 232, rfl⟩
abbrev main_v166 : Ref sig .tc := ⟨.hbm, 233, rfl⟩
abbrev main_v167 : Ref sig .tc := ⟨.hbm, 234, rfl⟩
abbrev main_v168 : Ref sig .tc := ⟨.hbm, 235, rfl⟩
abbrev main_v169 : Ref sig .tc := ⟨.hbm, 236, rfl⟩
abbrev main_cst_39 : Ref sig .tc := ⟨.hbm, 237, rfl⟩
abbrev main_v170 : Ref sig .tc := ⟨.hbm, 238, rfl⟩
abbrev main_v171 : Ref sig .tc := ⟨.hbm, 239, rfl⟩
abbrev main_cst_40 : Ref sig .tc := ⟨.hbm, 240, rfl⟩
abbrev main_v172 : Ref sig .tc := ⟨.hbm, 241, rfl⟩
abbrev main_v173 : Ref sig .tc := ⟨.hbm, 242, rfl⟩
abbrev main_cst_41 : Ref sig .tc := ⟨.hbm, 243, rfl⟩
abbrev main_call11_v0 : Ref sig .tc := ⟨.hbm, 244, rfl⟩
abbrev main_call11_v1 : Ref sig .tc := ⟨.hbm, 245, rfl⟩
abbrev main_v174 : Ref sig .tc := ⟨.hbm, 246, rfl⟩
abbrev main_v175 : Ref sig .tc := ⟨.hbm, 247, rfl⟩
abbrev main_v176 : Ref sig .tc := ⟨.hbm, 248, rfl⟩
abbrev main_v177 : Ref sig .tc := ⟨.hbm, 249, rfl⟩
abbrev main_v178 : Ref sig .tc := ⟨.hbm, 250, rfl⟩
abbrev main_cst_42 : Ref sig .tc := ⟨.hbm, 251, rfl⟩
abbrev main_v179 : Ref sig .tc := ⟨.hbm, 252, rfl⟩
abbrev main_v180 : Ref sig .tc := ⟨.hbm, 253, rfl⟩
abbrev main_v181 : Ref sig .tc := ⟨.hbm, 254, rfl⟩
abbrev main_v182 : Ref sig .tc := ⟨.hbm, 255, rfl⟩
abbrev main_v183 : Ref sig .tc := ⟨.hbm, 256, rfl⟩
abbrev main_v184 : Ref sig .tc := ⟨.hbm, 257, rfl⟩
abbrev main_v185 : Ref sig .tc := ⟨.hbm, 258, rfl⟩
abbrev main_cst_43 : Ref sig .tc := ⟨.hbm, 259, rfl⟩
abbrev main_v186 : Ref sig .tc := ⟨.hbm, 260, rfl⟩
abbrev main_v187 : Ref sig .tc := ⟨.hbm, 261, rfl⟩
abbrev main_cst_44 : Ref sig .tc := ⟨.hbm, 262, rfl⟩
abbrev main_v188 : Ref sig .tc := ⟨.hbm, 263, rfl⟩
abbrev main_v189 : Ref sig .tc := ⟨.hbm, 264, rfl⟩
abbrev main_cst_45 : Ref sig .tc := ⟨.hbm, 265, rfl⟩
abbrev main_call12_v0 : Ref sig .tc := ⟨.hbm, 266, rfl⟩
abbrev main_call12_v1 : Ref sig .tc := ⟨.hbm, 267, rfl⟩
abbrev main_v190 : Ref sig .tc := ⟨.hbm, 268, rfl⟩
abbrev main_v191 : Ref sig .tc := ⟨.hbm, 269, rfl⟩
abbrev main_v192 : Ref sig .tc := ⟨.hbm, 270, rfl⟩
abbrev main_v193 : Ref sig .tc := ⟨.hbm, 271, rfl⟩
abbrev main_v194 : Ref sig .tc := ⟨.hbm, 272, rfl⟩
abbrev main_cst_46 : Ref sig .tc := ⟨.hbm, 273, rfl⟩
abbrev main_v195 : Ref sig .tc := ⟨.hbm, 274, rfl⟩
abbrev main_v196 : Ref sig .tc := ⟨.hbm, 275, rfl⟩
abbrev main_v197 : Ref sig .tc := ⟨.hbm, 276, rfl⟩
abbrev main_v198 : Ref sig .tc := ⟨.hbm, 277, rfl⟩
abbrev main_v199 : Ref sig .tc := ⟨.hbm, 278, rfl⟩
abbrev main_v200 : Ref sig .tc := ⟨.hbm, 279, rfl⟩
abbrev main_v201 : Ref sig .tc := ⟨.hbm, 280, rfl⟩
abbrev main_cst_47 : Ref sig .tc := ⟨.hbm, 281, rfl⟩
abbrev main_v202 : Ref sig .tc := ⟨.hbm, 282, rfl⟩
abbrev main_v203 : Ref sig .tc := ⟨.hbm, 283, rfl⟩
abbrev main_cst_48 : Ref sig .tc := ⟨.hbm, 284, rfl⟩
abbrev main_v204 : Ref sig .tc := ⟨.hbm, 285, rfl⟩
abbrev main_v205 : Ref sig .tc := ⟨.hbm, 286, rfl⟩
abbrev main_cst_49 : Ref sig .tc := ⟨.hbm, 287, rfl⟩
abbrev main_call13_v0 : Ref sig .tc := ⟨.hbm, 288, rfl⟩
abbrev main_call13_v1 : Ref sig .tc := ⟨.hbm, 289, rfl⟩
abbrev main_v206 : Ref sig .tc := ⟨.hbm, 290, rfl⟩
abbrev main_v207 : Ref sig .tc := ⟨.hbm, 291, rfl⟩
abbrev main_v208 : Ref sig .tc := ⟨.hbm, 292, rfl⟩
abbrev main_v209 : Ref sig .tc := ⟨.hbm, 293, rfl⟩
abbrev main_v210 : Ref sig .tc := ⟨.hbm, 294, rfl⟩
abbrev main_cst_50 : Ref sig .tc := ⟨.hbm, 295, rfl⟩
abbrev main_v211 : Ref sig .tc := ⟨.hbm, 296, rfl⟩
abbrev main_v212 : Ref sig .tc := ⟨.hbm, 297, rfl⟩
abbrev main_v213 : Ref sig .tc := ⟨.hbm, 298, rfl⟩
abbrev main_v214 : Ref sig .tc := ⟨.hbm, 299, rfl⟩
abbrev main_v215 : Ref sig .tc := ⟨.hbm, 300, rfl⟩
abbrev main_v216 : Ref sig .tc := ⟨.hbm, 301, rfl⟩
abbrev main_v217 : Ref sig .tc := ⟨.hbm, 302, rfl⟩
abbrev main_cst_51 : Ref sig .tc := ⟨.hbm, 303, rfl⟩
abbrev main_v218 : Ref sig .tc := ⟨.hbm, 304, rfl⟩
abbrev main_v219 : Ref sig .tc := ⟨.hbm, 305, rfl⟩
abbrev main_cst_52 : Ref sig .tc := ⟨.hbm, 306, rfl⟩
abbrev main_v220 : Ref sig .tc := ⟨.hbm, 307, rfl⟩
abbrev main_v221 : Ref sig .tc := ⟨.hbm, 308, rfl⟩
abbrev main_cst_53 : Ref sig .tc := ⟨.hbm, 309, rfl⟩
abbrev main_call14_v0 : Ref sig .tc := ⟨.hbm, 310, rfl⟩
abbrev main_call14_v1 : Ref sig .tc := ⟨.hbm, 311, rfl⟩
abbrev main_v222 : Ref sig .tc := ⟨.hbm, 312, rfl⟩
abbrev main_v223 : Ref sig .tc := ⟨.hbm, 313, rfl⟩
abbrev main_v224 : Ref sig .tc := ⟨.hbm, 314, rfl⟩
abbrev main_v225 : Ref sig .tc := ⟨.hbm, 315, rfl⟩
abbrev main_v226 : Ref sig .tc := ⟨.hbm, 316, rfl⟩
abbrev main_cst_54 : Ref sig .tc := ⟨.hbm, 317, rfl⟩
abbrev main_v227 : Ref sig .tc := ⟨.hbm, 318, rfl⟩
abbrev main_v228 : Ref sig .tc := ⟨.hbm, 319, rfl⟩
abbrev main_v229 : Ref sig .tc := ⟨.hbm, 320, rfl⟩
abbrev main_v230 : Ref sig .tc := ⟨.hbm, 321, rfl⟩
abbrev main_v231 : Ref sig .tc := ⟨.hbm, 322, rfl⟩
abbrev main_v232 : Ref sig .tc := ⟨.hbm, 323, rfl⟩
abbrev main_v233 : Ref sig .tc := ⟨.hbm, 324, rfl⟩
abbrev main_cst_55 : Ref sig .tc := ⟨.hbm, 325, rfl⟩
abbrev main_v234 : Ref sig .tc := ⟨.hbm, 326, rfl⟩
abbrev main_v235 : Ref sig .tc := ⟨.hbm, 327, rfl⟩
abbrev main_cst_56 : Ref sig .tc := ⟨.hbm, 328, rfl⟩
abbrev main_v236 : Ref sig .tc := ⟨.hbm, 329, rfl⟩
abbrev main_v237 : Ref sig .tc := ⟨.hbm, 330, rfl⟩
abbrev main_cst_57 : Ref sig .tc := ⟨.hbm, 331, rfl⟩
abbrev main_call15_v0 : Ref sig .tc := ⟨.hbm, 332, rfl⟩
abbrev main_call15_v1 : Ref sig .tc := ⟨.hbm, 333, rfl⟩
abbrev main_v238 : Ref sig .tc := ⟨.hbm, 334, rfl⟩
abbrev main_v239 : Ref sig .tc := ⟨.hbm, 335, rfl⟩
abbrev main_v240 : Ref sig .tc := ⟨.hbm, 336, rfl⟩
abbrev main_v241 : Ref sig .tc := ⟨.hbm, 337, rfl⟩
abbrev main_v242 : Ref sig .tc := ⟨.hbm, 338, rfl⟩
abbrev main_cst_58 : Ref sig .tc := ⟨.hbm, 339, rfl⟩
abbrev main_v243 : Ref sig .tc := ⟨.hbm, 340, rfl⟩
abbrev main_v244 : Ref sig .tc := ⟨.hbm, 341, rfl⟩
abbrev main_v245 : Ref sig .tc := ⟨.hbm, 342, rfl⟩
abbrev main_v246 : Ref sig .tc := ⟨.hbm, 343, rfl⟩
abbrev main_v247 : Ref sig .tc := ⟨.hbm, 344, rfl⟩
abbrev main_v248 : Ref sig .tc := ⟨.hbm, 345, rfl⟩
abbrev main_v249 : Ref sig .tc := ⟨.hbm, 346, rfl⟩
abbrev main_cst_59 : Ref sig .tc := ⟨.hbm, 347, rfl⟩
abbrev main_v250 : Ref sig .tc := ⟨.hbm, 348, rfl⟩
abbrev main_v251 : Ref sig .tc := ⟨.hbm, 349, rfl⟩
abbrev main_cst_60 : Ref sig .tc := ⟨.hbm, 350, rfl⟩
abbrev main_v252 : Ref sig .tc := ⟨.hbm, 351, rfl⟩
abbrev main_v253 : Ref sig .tc := ⟨.hbm, 352, rfl⟩
abbrev main_cst_61 : Ref sig .tc := ⟨.hbm, 353, rfl⟩
abbrev main_call16_v0 : Ref sig .tc := ⟨.hbm, 354, rfl⟩
abbrev main_call16_v1 : Ref sig .tc := ⟨.hbm, 355, rfl⟩
abbrev main_v254 : Ref sig .tc := ⟨.hbm, 356, rfl⟩
abbrev main_v255 : Ref sig .tc := ⟨.hbm, 357, rfl⟩
abbrev main_v256 : Ref sig .tc := ⟨.hbm, 358, rfl⟩
abbrev main_v257 : Ref sig .tc := ⟨.hbm, 359, rfl⟩
abbrev main_v258 : Ref sig .tc := ⟨.hbm, 360, rfl⟩
abbrev main_cst_62 : Ref sig .tc := ⟨.hbm, 361, rfl⟩
abbrev main_v259 : Ref sig .tc := ⟨.hbm, 362, rfl⟩
abbrev main_v260 : Ref sig .tc := ⟨.hbm, 363, rfl⟩
abbrev main_v261 : Ref sig .tc := ⟨.hbm, 364, rfl⟩
abbrev main_v262 : Ref sig .tc := ⟨.hbm, 365, rfl⟩
abbrev main_v263 : Ref sig .tc := ⟨.hbm, 366, rfl⟩
abbrev main_v264 : Ref sig .tc := ⟨.hbm, 367, rfl⟩
abbrev main_v265 : Ref sig .tc := ⟨.hbm, 368, rfl⟩
abbrev main_cst_63 : Ref sig .tc := ⟨.hbm, 369, rfl⟩
abbrev main_v266 : Ref sig .tc := ⟨.hbm, 370, rfl⟩
abbrev main_v267 : Ref sig .tc := ⟨.hbm, 371, rfl⟩
abbrev main_cst_64 : Ref sig .tc := ⟨.hbm, 372, rfl⟩
abbrev main_v268 : Ref sig .tc := ⟨.hbm, 373, rfl⟩
abbrev main_v269 : Ref sig .tc := ⟨.hbm, 374, rfl⟩
abbrev main_cst_65 : Ref sig .tc := ⟨.hbm, 375, rfl⟩
abbrev main_call17_v0 : Ref sig .tc := ⟨.hbm, 376, rfl⟩
abbrev main_call17_v1 : Ref sig .tc := ⟨.hbm, 377, rfl⟩
abbrev main_v270 : Ref sig .tc := ⟨.hbm, 378, rfl⟩
abbrev main_v271 : Ref sig .tc := ⟨.hbm, 379, rfl⟩
abbrev main_v272 : Ref sig .tc := ⟨.hbm, 380, rfl⟩
abbrev main_v273 : Ref sig .tc := ⟨.hbm, 381, rfl⟩
abbrev main_v274 : Ref sig .tc := ⟨.hbm, 382, rfl⟩
abbrev main_cst_66 : Ref sig .tc := ⟨.hbm, 383, rfl⟩
abbrev main_v275 : Ref sig .tc := ⟨.hbm, 384, rfl⟩
abbrev main_v276 : Ref sig .tc := ⟨.hbm, 385, rfl⟩
abbrev main_v277 : Ref sig .tc := ⟨.hbm, 386, rfl⟩
abbrev main_v278 : Ref sig .tc := ⟨.hbm, 387, rfl⟩
abbrev main_v279 : Ref sig .tc := ⟨.hbm, 388, rfl⟩
abbrev main_v280 : Ref sig .tc := ⟨.hbm, 389, rfl⟩
abbrev main_v281 : Ref sig .tc := ⟨.hbm, 390, rfl⟩
abbrev main_cst_67 : Ref sig .tc := ⟨.hbm, 391, rfl⟩
abbrev main_v282 : Ref sig .tc := ⟨.hbm, 392, rfl⟩
abbrev main_v283 : Ref sig .tc := ⟨.hbm, 393, rfl⟩
abbrev main_cst_68 : Ref sig .tc := ⟨.hbm, 394, rfl⟩
abbrev main_v284 : Ref sig .tc := ⟨.hbm, 395, rfl⟩
abbrev main_v285 : Ref sig .tc := ⟨.hbm, 396, rfl⟩
abbrev main_cst_69 : Ref sig .tc := ⟨.hbm, 397, rfl⟩
abbrev main_call18_v0 : Ref sig .tc := ⟨.hbm, 398, rfl⟩
abbrev main_call18_v1 : Ref sig .tc := ⟨.hbm, 399, rfl⟩
abbrev main_v286 : Ref sig .tc := ⟨.hbm, 400, rfl⟩
abbrev main_v287 : Ref sig .tc := ⟨.hbm, 401, rfl⟩
abbrev main_v288 : Ref sig .tc := ⟨.hbm, 402, rfl⟩
abbrev main_v289 : Ref sig .tc := ⟨.hbm, 403, rfl⟩
abbrev main_v290 : Ref sig .tc := ⟨.hbm, 404, rfl⟩
abbrev main_cst_70 : Ref sig .tc := ⟨.hbm, 405, rfl⟩
abbrev main_v291 : Ref sig .tc := ⟨.hbm, 406, rfl⟩
abbrev main_v292 : Ref sig .tc := ⟨.hbm, 407, rfl⟩
abbrev main_v293 : Ref sig .tc := ⟨.hbm, 408, rfl⟩
abbrev main_v294 : Ref sig .tc := ⟨.hbm, 409, rfl⟩
abbrev main_v295 : Ref sig .tc := ⟨.hbm, 410, rfl⟩
abbrev main_v296 : Ref sig .tc := ⟨.hbm, 411, rfl⟩
abbrev main_v297 : Ref sig .tc := ⟨.hbm, 412, rfl⟩
abbrev main_cst_71 : Ref sig .tc := ⟨.hbm, 413, rfl⟩
abbrev main_v298 : Ref sig .tc := ⟨.hbm, 414, rfl⟩
abbrev main_v299 : Ref sig .tc := ⟨.hbm, 415, rfl⟩
abbrev main_cst_72 : Ref sig .tc := ⟨.hbm, 416, rfl⟩
abbrev main_v300 : Ref sig .tc := ⟨.hbm, 417, rfl⟩
abbrev main_v301 : Ref sig .tc := ⟨.hbm, 418, rfl⟩
abbrev main_cst_73 : Ref sig .tc := ⟨.hbm, 419, rfl⟩
abbrev main_call19_v0 : Ref sig .tc := ⟨.hbm, 420, rfl⟩
abbrev main_call19_v1 : Ref sig .tc := ⟨.hbm, 421, rfl⟩
abbrev main_v302 : Ref sig .tc := ⟨.hbm, 422, rfl⟩
abbrev main_v303 : Ref sig .tc := ⟨.hbm, 423, rfl⟩
abbrev main_v304 : Ref sig .tc := ⟨.hbm, 424, rfl⟩
abbrev main_v305 : Ref sig .tc := ⟨.hbm, 425, rfl⟩
abbrev main_v306 : Ref sig .tc := ⟨.hbm, 426, rfl⟩
abbrev main_cst_74 : Ref sig .tc := ⟨.hbm, 427, rfl⟩
abbrev main_v307 : Ref sig .tc := ⟨.hbm, 428, rfl⟩
abbrev main_v308 : Ref sig .tc := ⟨.hbm, 429, rfl⟩
abbrev main_v309 : Ref sig .tc := ⟨.hbm, 430, rfl⟩
abbrev main_v310 : Ref sig .tc := ⟨.hbm, 431, rfl⟩
abbrev main_v311 : Ref sig .tc := ⟨.hbm, 432, rfl⟩
abbrev main_v312 : Ref sig .tc := ⟨.hbm, 433, rfl⟩
abbrev main_v313 : Ref sig .tc := ⟨.hbm, 434, rfl⟩
abbrev main_cst_75 : Ref sig .tc := ⟨.hbm, 435, rfl⟩
abbrev main_v314 : Ref sig .tc := ⟨.hbm, 436, rfl⟩
abbrev main_v315 : Ref sig .tc := ⟨.hbm, 437, rfl⟩
abbrev main_cst_76 : Ref sig .tc := ⟨.hbm, 438, rfl⟩
abbrev main_v316 : Ref sig .tc := ⟨.hbm, 439, rfl⟩
abbrev main_v317 : Ref sig .tc := ⟨.hbm, 440, rfl⟩
abbrev main_cst_77 : Ref sig .tc := ⟨.hbm, 441, rfl⟩
abbrev main_call20_v0 : Ref sig .tc := ⟨.hbm, 442, rfl⟩
abbrev main_call20_v1 : Ref sig .tc := ⟨.hbm, 443, rfl⟩
abbrev main_v318 : Ref sig .tc := ⟨.hbm, 444, rfl⟩
abbrev main_v319 : Ref sig .tc := ⟨.hbm, 445, rfl⟩
abbrev main_v320 : Ref sig .tc := ⟨.hbm, 446, rfl⟩
abbrev main_v321 : Ref sig .tc := ⟨.hbm, 447, rfl⟩
abbrev main_v322 : Ref sig .tc := ⟨.hbm, 448, rfl⟩
abbrev main_cst_78 : Ref sig .tc := ⟨.hbm, 449, rfl⟩
abbrev main_v323 : Ref sig .tc := ⟨.hbm, 450, rfl⟩
abbrev main_v324 : Ref sig .tc := ⟨.hbm, 451, rfl⟩
abbrev main_v325 : Ref sig .tc := ⟨.hbm, 452, rfl⟩
abbrev main_v326 : Ref sig .tc := ⟨.hbm, 453, rfl⟩
abbrev main_v327 : Ref sig .tc := ⟨.hbm, 454, rfl⟩
abbrev main_v328 : Ref sig .tc := ⟨.hbm, 455, rfl⟩
abbrev main_v329 : Ref sig .tc := ⟨.hbm, 456, rfl⟩
abbrev main_cst_79 : Ref sig .tc := ⟨.hbm, 457, rfl⟩
abbrev main_v330 : Ref sig .tc := ⟨.hbm, 458, rfl⟩
abbrev main_v331 : Ref sig .tc := ⟨.hbm, 459, rfl⟩
abbrev main_cst_80 : Ref sig .tc := ⟨.hbm, 460, rfl⟩
abbrev main_v332 : Ref sig .tc := ⟨.hbm, 461, rfl⟩
abbrev main_v333 : Ref sig .tc := ⟨.hbm, 462, rfl⟩
abbrev main_cst_81 : Ref sig .tc := ⟨.hbm, 463, rfl⟩
abbrev main_call21_v0 : Ref sig .tc := ⟨.hbm, 464, rfl⟩
abbrev main_call21_v1 : Ref sig .tc := ⟨.hbm, 465, rfl⟩
abbrev main_v334 : Ref sig .tc := ⟨.hbm, 466, rfl⟩
abbrev main_v335 : Ref sig .tc := ⟨.hbm, 467, rfl⟩
abbrev main_v336 : Ref sig .tc := ⟨.hbm, 468, rfl⟩
abbrev main_v337 : Ref sig .tc := ⟨.hbm, 469, rfl⟩
abbrev main_v338 : Ref sig .tc := ⟨.hbm, 470, rfl⟩
abbrev main_cst_82 : Ref sig .tc := ⟨.hbm, 471, rfl⟩
abbrev main_v339 : Ref sig .tc := ⟨.hbm, 472, rfl⟩
abbrev main_v340 : Ref sig .tc := ⟨.hbm, 473, rfl⟩
abbrev main_v341 : Ref sig .tc := ⟨.hbm, 474, rfl⟩
abbrev main_v342 : Ref sig .tc := ⟨.hbm, 475, rfl⟩
abbrev main_v343 : Ref sig .tc := ⟨.hbm, 476, rfl⟩
abbrev main_v344 : Ref sig .tc := ⟨.hbm, 477, rfl⟩
abbrev main_v345 : Ref sig .tc := ⟨.hbm, 478, rfl⟩
abbrev main_cst_83 : Ref sig .tc := ⟨.hbm, 479, rfl⟩
abbrev main_v346 : Ref sig .tc := ⟨.hbm, 480, rfl⟩
abbrev main_v347 : Ref sig .tc := ⟨.hbm, 481, rfl⟩
abbrev main_cst_84 : Ref sig .tc := ⟨.hbm, 482, rfl⟩
abbrev main_v348 : Ref sig .tc := ⟨.hbm, 483, rfl⟩
abbrev main_v349 : Ref sig .tc := ⟨.hbm, 484, rfl⟩
abbrev main_cst_85 : Ref sig .tc := ⟨.hbm, 485, rfl⟩
abbrev main_call22_v0 : Ref sig .tc := ⟨.hbm, 486, rfl⟩
abbrev main_call22_v1 : Ref sig .tc := ⟨.hbm, 487, rfl⟩
abbrev main_v350 : Ref sig .tc := ⟨.hbm, 488, rfl⟩
abbrev main_v351 : Ref sig .tc := ⟨.hbm, 489, rfl⟩
abbrev main_v352 : Ref sig .tc := ⟨.hbm, 490, rfl⟩
abbrev main_v353 : Ref sig .tc := ⟨.hbm, 491, rfl⟩
abbrev main_v354 : Ref sig .tc := ⟨.hbm, 492, rfl⟩
abbrev main_cst_86 : Ref sig .tc := ⟨.hbm, 493, rfl⟩
abbrev main_v355 : Ref sig .tc := ⟨.hbm, 494, rfl⟩
abbrev main_v356 : Ref sig .tc := ⟨.hbm, 495, rfl⟩
abbrev main_v357 : Ref sig .tc := ⟨.hbm, 496, rfl⟩
abbrev main_v358 : Ref sig .tc := ⟨.hbm, 497, rfl⟩
abbrev main_v359 : Ref sig .tc := ⟨.hbm, 498, rfl⟩
abbrev main_v360 : Ref sig .tc := ⟨.hbm, 499, rfl⟩
abbrev main_v361 : Ref sig .tc := ⟨.hbm, 500, rfl⟩
abbrev main_v362 : Ref sig .tc := ⟨.hbm, 501, rfl⟩
abbrev main_v363 : Ref sig .tc := ⟨.hbm, 502, rfl⟩
abbrev main_v364 : Ref sig .tc := ⟨.hbm, 503, rfl⟩
abbrev main_v365 : Ref sig .tc := ⟨.hbm, 504, rfl⟩
abbrev main_v366 : Ref sig .tc := ⟨.hbm, 505, rfl⟩
abbrev main_v367 : Ref sig .tc := ⟨.hbm, 506, rfl⟩

abbrev nD : Nat := 1
abbrev τ : Topo := Topo.v7x

variable {F : FTy → Type} [FloatOps F]
-- ==== Proof.KernelStep.lean ====
/- The kernel's body in a compact form: one Sinkhorn iteration as a function of its state, the ten iterations as
   iterates of it, and the printed body as the two loads, the four loads and stores of the result's pieces, and
   nothing else. -/
module

public import proofs.«01_k».proof.Proof.Gen.KernelIdeal.Skeleton

@[expose] public section

noncomputable section

namespace Cert.KernelIdeal

open Idealize.ShloMosaic Idealize.SL.Sem

variable {F : FTy → Type} [FloatOps F]

/-- What an iteration hands to the next: the row potentials `u` with the dustbin row's `ul`, and the column potentials
    `v` with the dustbin column's `vl`, of the two batch elements of a block. -/
structure State (F : FTy → Type) where
  u : FVec F S2x1024x1 .f32
  ul : FVec F S2x1x1 .f32
  v : FVec F S2x1x1024 .f32
  vl : FVec F S2x1x1 .f32

/-- The largest entry of a row of potentials, per batch element. -/
def rowTop (v : FVec F S2x1x1024 .f32) : FVec F S2x1x1 .f32 :=
  shapeCast S2x1x1 (multiReduction .maximumf [1, 2] S2 v 0xFF800000#32 Gen.reduces_S2x1x1024_S2 (.inl rfl) rfl) Gen.shapeCasts_S2_S2x1x1

/-- The largest entry of a column of potentials, per batch element. -/
def colTop (u : FVec F S2x1024x1 .f32) : FVec F S2x1x1 .f32 :=
  shapeCast S2x1x1 (multiReduction .maximumf [1, 2] S2 u 0xFF800000#32 Gen.reduces_S2x1024x1_S2 (.inl rfl) rfl) Gen.shapeCasts_S2_S2x1x1

/-- The new row potentials, from the block's row maxima `c`, its shifted exponentials `e`, the dustbin score `a` and the
    column potentials. -/
def uStep (a norm : F .f32) (c : FVec F S2x1024x1 .f32) (e : FVec F S2x1024x1024 .f32)
    (v : FVec F S2x1x1024 .f32) (vl : FVec F S2x1x1 .f32) : FVec F S2x1024x1 .f32 :=
  subf (broadcast S2x1024x1 norm)
    (addf (addf c (broadcastTo S2x1024x1 (rowTop v) Gen.broadcasts_S2x1x1_S2x1024x1))
      (log (addf
        (shapeCast S2x1024x1 (multiReduction .add [2] S2x1024
          (mulf e (broadcastTo S2x1024x1024 (exp (subf v (broadcastTo S2x1x1024 (rowTop v) Gen.broadcasts_S2x1x1_S2x1x1024)))
            Gen.broadcasts_S2x1x1024_S2x1024x1024))
          0x00000000#32 Gen.reduces_S2x1024x1024_S2x1024 (.inl rfl) rfl) Gen.shapeCasts_S2x1024_S2x1024x1)
        (exp (subf (subf (broadcastTo S2x1024x1 (addf (broadcast S2x1x1 a) vl) Gen.broadcasts_S2x1x1_S2x1024x1) c)
          (broadcastTo S2x1024x1 (rowTop v) Gen.broadcasts_S2x1x1_S2x1024x1))))))

/-- The dustbin row's new potential. -/
def ulStep (a norm n : F .f32) (v : FVec F S2x1x1024 .f32) (vl : FVec F S2x1x1 .f32) : FVec F S2x1x1 .f32 :=
  subf (broadcast S2x1x1 (Scalar.subf (Scalar.addf n norm) a))
    (addf (maximumf (rowTop v) vl)
      (log (addf
        (shapeCast S2x1x1 (multiReduction .add [1, 2] S2
          (exp (subf v (broadcastTo S2x1x1024 (maximumf (rowTop v) vl) Gen.broadcasts_S2x1x1_S2x1x1024)))
          0x00000000#32 Gen.reduces_S2x1x1024_S2 (.inl rfl) rfl) Gen.shapeCasts_S2_S2x1x1)
        (exp (subf vl (maximumf (rowTop v) vl))))))

/-- The new column potentials, from the row potentials just computed. -/
def vStep (a norm : F .f32) (c : FVec F S2x1024x1 .f32) (e : FVec F S2x1024x1024 .f32)
    (u : FVec F S2x1024x1 .f32) (ul : FVec F S2x1x1 .f32) : FVec F S2x1x1024 .f32 :=
  subf (broadcast S2x1x1024 norm)
    (addf (broadcastTo S2x1x1024 (colTop (addf c u)) Gen.broadcasts_S2x1x1_S2x1x1024)
      (log (addf
        (shapeCast S2x1x1024 (multiReduction .add [1] S2x1024
          (mulf e (broadcastTo S2x1024x1024
            (exp (subf (addf c u) (broadcastTo S2x1024x1 (colTop (addf c u)) Gen.broadcasts_S2x1x1_S2x1024x1)))
            Gen.broadcasts_S2x1024x1_S2x1024x1024))
          0x00000000#32 Gen.reduces_S2x1024x1024_S2x1024_2 (.inl rfl) rfl) Gen.shapeCasts_S2x1024_S2x1x1024)
        (broadcastTo S2x1x1024 (exp (subf (addf (broadcast S2x1x1 a) ul) (colTop (addf c u)))) Gen.broadcasts_S2x1x1_S2x1x1024))))

/-- The dustbin column's new potential. -/
def vlStep (a norm m : F .f32) (u : FVec F S2x1024x1 .f32) (ul : FVec F S2x1x1 .f32) : FVec F S2x1x1 .f32 :=
  subf (broadcast S2x1x1 (Scalar.subf (Scalar.addf m norm) a))
    (addf (maximumf (colTop u) ul)
      (log (addf
        (shapeCast S2x1x1 (multiReduction .add [1, 2] S2
          (exp (subf u (broadcastTo S2x1024x1 (maximumf (colTop u) ul) Gen.broadcasts_S2x1x1_S2x1024x1)))
          0x00000000#32 Gen.reduces_S2x1024x1_S2 (.inl rfl) rfl) Gen.shapeCasts_S2_S2x1x1)
        (exp (subf ul (maximumf (colTop u) ul))))))

/-- One iteration on the block `x` with the dustbin score `a`: the row potentials from the column potentials, then the
    column potentials from those. -/
def step (x : FVec F S2x1024x1024 .f32) (a : F .f32) (s : State F) : State F where
  u := uStep a Gen.k0_pay2 (Gen.k0_pay5 x) (Gen.k0_pay6 x) s.v s.vl
  ul := ulStep a Gen.k0_pay2 Gen.k0_pay4 s.v s.vl
  v := vStep a Gen.k0_pay2 (Gen.k0_pay5 x) (Gen.k0_pay6 x)
    (uStep a Gen.k0_pay2 (Gen.k0_pay5 x) (Gen.k0_pay6 x) s.v s.vl) (ulStep a Gen.k0_pay2 Gen.k0_pay4 s.v s.vl)
  vl := vlStep a Gen.k0_pay2 Gen.k0_pay3
    (uStep a Gen.k0_pay2 (Gen.k0_pay5 x) (Gen.k0_pay6 x) s.v s.vl) (ulStep a Gen.k0_pay2 Gen.k0_pay4 s.v s.vl)

/-- The state before the first iteration: the column potentials are zero (the row potentials are not read). -/
def start : State F where
  u := broadcast S2x1024x1 (Scalar.ofBits .f32 0x00000000#32)
  ul := broadcast S2x1x1 (Scalar.ofBits .f32 0x00000000#32)
  v := Gen.k0_pay7
  vl := Gen.k0_pay8

/-- The state after `k` iterations. -/
def state (x : FVec F S2x1024x1024 .f32) (a : F .f32) : ℕ → State F
  | 0 => start
  | k + 1 => step x a (state x a k)

/-- The result's interior: the scores plus both potentials, less the normalisation. -/
def inner (x : FVec F S2x1024x1024 .f32) (s : State F) : FVec F S2x1024x1024 .f32 := Gen.k0_pay85 x Gen.k0_pay2 s.u s.v

/-- The result's last column, its last row excepted. -/
def lastCol (a : F .f32) (s : State F) : FVec F S2x1024x1 .f32 :=
  subf (addf (addf (broadcast S2x1024x1 a) s.u) (broadcastTo S2x1024x1 s.vl Gen.broadcasts_S2x1x1_S2x1024x1))
    (broadcast S2x1024x1 Gen.k0_pay2)

/-- The result's last row, its last column excepted. -/
def lastRow (a : F .f32) (s : State F) : FVec F S2x1x1024 .f32 := Gen.k0_pay87 a Gen.k0_pay2 s.ul s.v

/-- The result's corner. -/
def corner (a : F .f32) (s : State F) : FVec F S2x1x1 .f32 := Gen.k0_pay1 a Gen.k0_pay2 s.ul s.vl

/-- The body's memory operations: the block and the dustbin score are loaded, and the four pieces of the result are
    stored (each store preceded by a load of the piece's place, whose value is not used). -/
def body' (i : grid0.Coords) (arg1 : Memref sig .tc .smem S1x1 .f32) (harg1 : arg1.IsWhole) (arg2 : Memref sig .tc .vmem S2x1024x1024 .f32) (harg2 : arg2.IsWhole) (arg3 : Memref sig .tc .vmem S2x1025x1025 .f32) (harg3 : arg3.IsWhole) :
    Prog (TpuEff nD τ sig (Elt F) Λ₀ .tc) PUnit := do
  let x : Vec F S2x1024x1024 .f32 ← Prog.lift (.load arg2 (Rect.unit (s := S2x1024x1024) ![0, 0, 0] S2x1024x1024.size Gen.inb_S2x1024x1024_S2x1024x1024_0_0_0).toLoadRect (View.loadsAt_vmem Gen.h_S2x1024x1024))
  let a : Elt F .f32 ← smemLoad arg1 (Rect.unit (s := S1x1) ![0, 0] S1x1.size Gen.inb_S1x1_S1x1_0_0) Gen.numel1_S1x1 rfl
  let _ : Vec F S2x1024x1024 .f32 ← Prog.lift (.load arg3 (Rect.unit (s := S2x1025x1025) ![0, 0, 0] S2x1024x1024.size Gen.inb_S2x1025x1025_S2x1024x1024_0_0_0).toLoadRect (View.loadsAt_vmem Gen.h_S2x1024x1024))
  Prog.lift (.store arg3 (Rect.unit (s := S2x1025x1025) ![0, 0, 0] S2x1024x1024.size Gen.inb_S2x1025x1025_S2x1024x1024_0_0_0) (inner x (state x a 10)) Finset.univ (View.stores_vmem_bits_univ Gen.h_S2x1024x1024 rfl) (.inl rfl))
  let _ : Vec F S2x1024x1 .f32 ← Prog.lift (.load arg3 (Rect.unit (s := S2x1025x1025) ![0, 0, 1024] S2x1024x1.size Gen.inb_S2x1025x1025_S2x1024x1_0_0_1024).toLoadRect (View.loadsAt_vmem Gen.h_S2x1024x1))
  Prog.lift (.store arg3 (Rect.unit (s := S2x1025x1025) ![0, 0, 1024] S2x1024x1.size Gen.inb_S2x1025x1025_S2x1024x1_0_0_1024) (lastCol a (state x a 10)) Finset.univ (View.stores_vmem_bits_univ Gen.h_S2x1024x1 rfl) (.inl rfl))
  let _ : Vec F S2x1x1024 .f32 ← Prog.lift (.load arg3 (Rect.unit (s := S2x1025x1025) ![0, 1024, 0] S2x1x1024.size Gen.inb_S2x1025x1025_S2x1x1024_0_1024_0).toLoadRect (View.loadsAt_vmem Gen.h_S2x1x1024))
  Prog.lift (.store arg3 (Rect.unit (s := S2x1025x1025) ![0, 1024, 0] S2x1x1024.size Gen.inb_S2x1025x1025_S2x1x1024_0_1024_0) (lastRow a (state x a 10)) Finset.univ (View.stores_vmem_bits_univ Gen.h_S2x1x1024 rfl) (.inl rfl))
  let _ : Vec F S2x1x1 .f32 ← Prog.lift (.load arg3 (Rect.unit (s := S2x1025x1025) ![0, 1024, 1024] S2x1x1.size Gen.inb_S2x1025x1025_S2x1x1_0_1024_1024).toLoadRect (View.loadsAt_vmem Gen.h_S2x1x1))
  Prog.lift (.store arg3 (Rect.unit (s := S2x1025x1025) ![0, 1024, 1024] S2x1x1.size Gen.inb_S2x1025x1025_S2x1x1_0_1024_1024) (corner a (state x a 10)) Finset.univ (View.stores_vmem_bits_univ Gen.h_S2x1x1 rfl) (.inl rfl))
  pure ⟨⟩

set_option maxRecDepth 65536 in
/-- The printed body is the compact one. -/
theorem body_eq : cc0__sinkhorn_body (F := F) = body' (F := F) := by
  rw [Gen.cc0__sinkhorn_body_eq_skeleton]
  rfl

end Cert.KernelIdeal

end
-- ==== Proof.KernelRun.lean ====
/- The run of the kernel's body on whole buffers: it leaves the result's buffer holding the four stored pieces. -/
module

public import proofs.«01_k».proof.Proof.KernelStep
public import proofs.«01_k».proof.Proof.Gen.KernelIdeal.Frame
public import Idealize.ShloMosaic.Lib.VecWindow
public import Idealize.ShloMosaic.Lib.Pointwise

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One block of the result -/

/-- The block of the result that the state `s` gives: its interior, last column, last row and corner. -/
def blockOf (x : FVec F S2x1024x1024 .f32) (a : F .f32) (s : State F) : Vec F S2x1025x1025 .f32 := fun y =>
  if h1 : (y 1).val < 1024 then
    if h2 : (y 2).val < 1024 then inner x s (ix3 (y 0) ⟨(y 1).val, h1⟩ ⟨(y 2).val, h2⟩)
    else lastCol a s (ix3 (y 0) ⟨(y 1).val, h1⟩ 0)
  else
    if h2 : (y 2).val < 1024 then lastRow a s (ix3 (y 0) 0 ⟨(y 2).val, h2⟩)
    else corner a s (ix3 (y 0) 0 0)

/-- The block of the result that the body computes from the block `x` of scores and the dustbin score `a`. -/
def blockOut (x : FVec F S2x1024x1024 .f32) (a : F .f32) : Vec F S2x1025x1025 .f32 := blockOf x a (state x a 10)

/-- The four pieces the body stores, the last stored first. -/
def pieces (x : FVec F S2x1024x1024 .f32) (a : F .f32) (s : State F) : List (View.Piece (Elt F) S2x1025x1025 .f32) :=
  [⟨Rect.unit ![0, 1024, 1024] S2x1x1.size Gen.inb_S2x1025x1025_S2x1x1_0_1024_1024, corner a s⟩,
   ⟨Rect.unit ![0, 1024, 0] S2x1x1024.size Gen.inb_S2x1025x1025_S2x1x1024_0_1024_0, lastRow a s⟩,
   ⟨Rect.unit ![0, 0, 1024] S2x1024x1.size Gen.inb_S2x1025x1025_S2x1024x1_0_0_1024, lastCol a s⟩,
   ⟨Rect.unit ![0, 0, 0] S2x1024x1024.size Gen.inb_S2x1025x1025_S2x1024x1024_0_0_0, inner x s⟩]

/-- A buffer of the result's block read after the four stores is the block, whatever it held before. -/
theorem read_pieces (v : View sig .tc .vmem S2x1025x1025 .f32) (f : v.ty.Contents (Elt F))
    (x : FVec F S2x1024x1024 .f32) (a : F .f32) (s : State F) :
    v.read (Elt F) (v.writes (Elt F) f (pieces x a s)) = blockOf x a s := by
  funext y
  have hy1 : (y 1).val < 1025 := (y 1).isLt
  have hy2 : (y 2).val < 1025 := (y 2).isLt
  unfold pieces blockOf
  split <;> rename_i h1 <;> split <;> rename_i h2
  · rw [View.read_writes_cons_miss_of_axis v f _ _ y 1 1024 1 rfl rfl rfl (.inl h1),
      View.read_writes_cons_miss_of_axis v f _ _ y 1 1024 1 rfl rfl rfl (.inl h1),
      View.read_writes_cons_miss_of_axis v f _ _ y 2 1024 1 rfl rfl rfl (.inl h2)]
    refine View.read_writes_cons_hit_of_coords v f (Rect.unit ![0, 0, 0] S2x1024x1024.size Gen.inb_S2x1025x1025_S2x1024x1024_0_0_0) _ _
      (ix3 (y 0) ⟨(y 1).val, h1⟩ ⟨(y 2).val, h2⟩) y fun a => ?_
    match a with
    | ⟨0, _⟩ => show (y 0).val = 0 + 1 * (y 0).val; omega
    | ⟨1, _⟩ => show (y 1).val = 0 + 1 * (y 1).val; omega
    | ⟨2, _⟩ => show (y 2).val = 0 + 1 * (y 2).val; omega
  · rw [View.read_writes_cons_miss_of_axis v f _ _ y 1 1024 1 rfl rfl rfl (.inl h1),
      View.read_writes_cons_miss_of_axis v f _ _ y 1 1024 1 rfl rfl rfl (.inl h1)]
    refine View.read_writes_cons_hit_of_coords v f (Rect.unit ![0, 0, 1024] S2x1024x1.size Gen.inb_S2x1025x1025_S2x1024x1_0_0_1024) _ _
      (ix3 (y 0) ⟨(y 1).val, h1⟩ 0) y fun a => ?_
    match a with
    | ⟨0, _⟩ => show (y 0).val = 0 + 1 * (y 0).val; omega
    | ⟨1, _⟩ => show (y 1).val = 0 + 1 * (y 1).val; omega
    | ⟨2, _⟩ => show (y 2).val = 1024 + 1 * 0; omega
  · rw [View.read_writes_cons_miss_of_axis v f _ _ y 2 1024 1 rfl rfl rfl (.inl h2)]
    refine View.read_writes_cons_hit_of_coords v f (Rect.unit ![0, 1024, 0] S2x1x1024.size Gen.inb_S2x1025x1025_S2x1x1024_0_1024_0) _ _
      (ix3 (y 0) 0 ⟨(y 2).val, h2⟩) y fun a => ?_
    match a with
    | ⟨0, _⟩ => show (y 0).val = 0 + 1 * (y 0).val; omega
    | ⟨1, _⟩ => show (y 1).val = 1024 + 1 * 0; omega
    | ⟨2, _⟩ => show (y 2).val = 0 + 1 * (y 2).val; omega
  · refine View.read_writes_cons_hit_of_coords v f (Rect.unit ![0, 1024, 1024] S2x1x1.size Gen.inb_S2x1025x1025_S2x1x1_0_1024_1024) _ _
      (ix3 (y 0) 0 0) y fun a => ?_
    match a with
    | ⟨0, _⟩ => show (y 0).val = 0 + 1 * (y 0).val; omega
    | ⟨1, _⟩ => show (y 1).val = 1024 + 1 * 0; omega
    | ⟨2, _⟩ => show (y 2).val = 1024 + 1 * 0; omega

/-- The one entry of a one-by-one array, at whatever coordinates it is read. -/
theorem read_first (x : Vec F S1x1 .f32) (i : S1x1.Idx) : x i = x (ix2 0 0) :=
  congrArg x (funext fun a => match a with
    | ⟨0, _⟩ => Subsingleton.elim (α := Fin 1) _ _
    | ⟨1, _⟩ => Subsingleton.elim (α := Fin 1) _ _)

/-! ## The body's run -/

/-- The body on whole buffers, the dustbin score's and the scores' at their contents and the result's at anything: it
    ends with the first two as they were and the result's holding the block `blockOut`. -/
theorem body_run (c : Dev nD) (i : grid0.Coords) (arg1 : Memref sig .tc .smem S1x1 .f32) (harg1 : arg1.IsWhole) (arg2 : Memref sig .tc .vmem S2x1024x1024 .f32) (harg2 : arg2.IsWhole) (arg3 : Memref sig .tc .vmem S2x1025x1025 .f32) (harg3 : arg3.IsWhole)
    (x0 : Vec F S1x1 .f32) (x1 : Vec F S2x1024x1024 .f32) (E : Set ℕ) (K : PUnit → sProp 𝕄) :
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ owns (c : Thread nD τ) arg3 fullShare (blockOut x1 (x0 (ix2 0 0)))) -∗ K ⟨⟩))
          ⊢ wp frame (wpE (defs₀ (F := F)) Variants.none c none) E (cc0__sinkhorn_body i arg1 harg1 arg2 harg2 arg3 harg3) K := by
  rw [body_eq]
  unfold body' owns
  iintro ⟨⟨%f0, %hf0, H0⟩, ⟨%f1, %hf1, H1⟩, ⟨%d2, %f2, -, H2⟩, Hk⟩
  obtain rfl := harg1.eq_unread hf0; obtain rfl := harg2.eq_unread hf1
  sl_exec
  sl_step
  iapply Hk
  isplitl [H0]
  · iexists _; isplitr; · ipureintro; exact harg1.read_unread _
    iexact H0
  isplitl [H1]
  · iexists _; isplitr; · ipureintro; exact harg2.read_unread _
    iexact H1
  iexists _; isplitr; swap; · iexact H2
  ipureintro
  have ha : body_run.sl.r c arg1 harg1 x0 = x0 (ix2 0 0) := by
    unfold body_run.sl.r
    rw [View.readAt_full, hf0]
    exact read_first x0 _
  rw [View.readAt_full, hf1, ha]
  exact read_pieces arg3.view f2 x1 (x0 (ix2 0 0)) (state x1 (x0 (ix2 0 0)) 10)

end Cert.KernelIdeal

end
-- ==== Proof.KernelFrame.lean ====
/- The launch of the kernel: every run ends with the arguments unchanged and the result array assembled from the blocks
   the body leaves. -/
module

public import proofs.«01_k».proof.Proof.KernelRun
public import Idealize.ShloMosaic.Lib.Claim

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Gen in
/-- What is known of the windows on core `c`: their arrays at the launch; after the body at point `t` each input's buffer
    at its block and the result's at the block computed from them; nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => blockOut (iblk m c 1 t) ((iblk m c 0 t : Vec F S1x1 .f32) (ix2 0 0))
  Φ _ := Pipeline.ΦA spec0 c
  q _ := fullShare
  owed _ := 0

/-- Every window's array is as the region finds it. -/
theorem A_eq (c : Dev nD) (w : Fin cfg0.W) : (dats m 0 c).A w = Gen.V m c (Pipeline.arrRef spec0 w) := by
  dsimp only [dats]

/-- The body leaves the dustbin score's buffer as it is, -/
theorem after_alpha (c : Dev nD) (t : Fin cfg0.N) : (dats m 0 c).after 0 t = Gen.iblk m c 0 t := by dsimp only [dats]
/-- the scores' too, -/
theorem after_scores (c : Dev nD) (t : Fin cfg0.N) : (dats m 0 c).after 1 t = Gen.iblk m c 1 t := by dsimp only [dats]
/-- and the result's at the computed block. -/
theorem after_out (c : Dev nD) (t : Fin cfg0.N) :
    (dats m 0 c).after 2 t = blockOut (Gen.iblk m c 1 t) ((Gen.iblk m c 0 t : Vec F S1x1 .f32) (ix2 0 0)) := by dsimp only [dats]

/-- Before the body at a point the dustbin score's buffer holds its block, -/
theorem before_alpha (c : Dev nD) (t : Fin cfg0.N) (d) : (dats m 0 c).before 0 t d = Gen.iblk m c 0 t :=
  Gen.before0_0_of m (dats m 0 c) (A_eq m c 0) (after_alpha m c) t d
/-- and the scores' buffer its own. -/
theorem before_scores (c : Dev nD) (t : Fin cfg0.N) (d) : (dats m 0 c).before 1 t d = Gen.iblk m c 1 t :=
  Gen.before0_1_of m (dats m 0 c) (A_eq m c 1) (after_scores m c) t d

/-- What the body is given at point `t`. -/
def given (c : Dev nD) (t : Fin cfg0.N) : sProp 𝕄 :=
  iprop((dats m 0 c).Φ t.castSucc ∗ (dats m 0 c).owesAt () t.castSucc
    ∗ (∃ d, owns (c : Thread nD τ) (Gen.st0_0 t) fullShare ((dats m 0 c).before 0 t d))
    ∗ (∃ d, owns (c : Thread nD τ) (Gen.st0_1 t) fullShare ((dats m 0 c).before 1 t d))
    ∗ (∃ d, owns (c : Thread nD τ) (Gen.st0_2 t) fullShare ((dats m 0 c).before 2 t d)))

/-- What the body gives back at point `t`. -/
def returned (c : Dev nD) (t : Fin cfg0.N) : sProp 𝕄 :=
  iprop((dats m 0 c).Φ t.succ ∗ (dats m 0 c).owesAt () t.succ
    ∗ owns (c : Thread nD τ) (Gen.st0_0 t) fullShare ((dats m 0 c).after 0 t)
    ∗ owns (c : Thread nD τ) (Gen.st0_1 t) fullShare ((dats m 0 c).after 1 t)
    ∗ owns (c : Thread nD τ) (Gen.st0_2 t) fullShare ((dats m 0 c).after 2 t))

/-- The body at any point, given its buffers, returns them with the block computed. -/
theorem sound_body (c : Dev nD) (t : Fin cfg0.N) :
    given m c t ⊢ wp frame (wpE (defs₀ (F := F)) Variants.none c none) Set.univ (Gen.bodyAt0 t) (fun _ => returned m c t) := by
  unfold given returned Gen.bodyAt0
  simp only [before_alpha, before_scores]
  rw [show (dats m 0 c).Φ t.succ = (dats m 0 c).Φ t.castSucc from rfl,
    show (dats m 0 c).owesAt () t.succ = (dats m 0 c).owesAt () t.castSucc from rfl,
    after_alpha, after_scores, after_out]
  iintro ⟨HΦ, Ho, ⟨%d0, H0⟩, ⟨%d1, H1⟩, ⟨%d2, H2⟩⟩
  iapply (body_run c (grid0.coords t) _ _ _ _ _ _ (Gen.iblk m c 0 t) (Gen.iblk m c 1 t) Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launched body at point `t` is the kernel's body on that point's buffers. -/
theorem defs₀_row (t : Fin cfg0.N) :
    defs₀ (F := F) .tc cfg0.body (cfg0.bodyArgs t (cfg0.slots t)) = Gen.bodyAt0 t := by
  unfold defs₀; rw [Defs.onTc_tc]

/-- The body meets its obligation at every point. -/
theorem body_obligation (c : Dev nD) : BodyObligation (dats (F := F) m 0 c) (defs₀ (F := F)) Variants.none () Set.univ := fun t => by
  rw [Gen.bigSep_W0, Gen.bigSep_W0, defs₀_row]
  exact triple_restated (sound_body m c t) rfl .rfl fun _ => .rfl

-- the run's implicit arguments are found by unfolding plain definitions in the type of a variable to be found
set_option backward.isDefEq.respectTransparency.types false in
/-- Every run of the kernel ends with each window's array at its final contents, every other array as it was at the
    region's entry, and every semaphore at zero. -/
theorem run_all : θ_run defs (onTc (τ := τ) (main (F := F))) (s₀ m ρ) (fun r => Pipeline.FramePost cfgs (dats m) 0 (Gen.V m) r ∧ r.2.sem = fun _ => 0) :=
  Pipeline.θ_run_frame (Q' := _) cfgs (dats m) (0 : Fin 1) Gen.launch0 defs₀ Variants.none m ρ main
    (hbody := fun c => (body_obligation m c).loose) (hshare := fun c => (dats m 0 c).share_full fun _ => rfl)
    (howed := fun _ _ => rfl) (V := Gen.V m) (hmain := Gen.hmain m Variants.none) (hA := A_eq m) (hΦ := fun _ _ => rfl)

/-- Every run of the kernel ends with each window's array at its final contents and every other array as it was. -/
theorem run : θ_run defs (onTc (τ := τ) (main (F := F))) (s₀ m ρ) (Pipeline.FramePost cfgs (dats m) 0 (Gen.V m)) :=
  (θ_run defs _ _).mono (fun _ h => h.1) (run_all m ρ)

/-- Every run of the kernel ends with the four argument arrays unchanged and every semaphore at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (Gen.frame_of m ρ (dats m) (A_eq m) (run m ρ)) ((θ_run defs _ _).mono (fun _ h => h.2) (run_all m ρ))

end Cert.KernelIdeal

end
-- ==== Proof.Potentials.lean ====
/- The mathematics of the two programs: a Sinkhorn iteration in the logarithm on real numbers, and the forms in which the
   kernel and the reference compute one half of it, each equal to it whatever finite shift is taken out of the sum. -/
module

public import Idealize.ShloMosaic.PureOps.Ideal
public import Idealize.ShloMosaic.PureOps.Ideal.Laws

@[expose] public section

noncomputable section

namespace Cert.Sinkhorn

open Idealize.ShloMosaic

/-! ## The iteration on real numbers -/

/-- The row potentials that give the rows of the scaled weights the masses `exp (mu i)`, the column potentials being `V`. -/
def rowPot {n : ℕ} (W : Fin n → Fin n → ℝ) (mu V : Fin n → ℝ) (i : Fin n) : ℝ :=
  mu i - Real.log (∑ j, W i j * Real.exp (V j))

/-- The column potentials, the row potentials being `U`. -/
def colPot {n : ℕ} (W : Fin n → Fin n → ℝ) (mu U : Fin n → ℝ) (j : Fin n) : ℝ :=
  mu j - Real.log (∑ i, W i j * Real.exp (U i))

/-- Both potentials after `k` iterations, from zero. -/
def pots {n : ℕ} (W : Fin n → Fin n → ℝ) (mu : Fin n → ℝ) : ℕ → (Fin n → ℝ) × (Fin n → ℝ)
  | 0 => (0, 0)
  | k + 1 => (rowPot W mu (pots W mu k).2, colPot W mu (rowPot W mu (pots W mu k).2))

/-- The scores with a dustbin row and column of the one score `a`. -/
def pad {n : ℕ} (S : Fin n → Fin n → EReal) (a : EReal) (i j : Fin (n + 1)) : EReal :=
  if hi : i.val < n then if hj : j.val < n then S ⟨i.val, hi⟩ ⟨j.val, hj⟩ else a else a

/-- The weight of a score, its exponential as a real number (zero for the score `⊥`). -/
def weight (s : EReal) : ℝ := (Ideal.exp s).toReal

/-- The logarithm of the normalisation: `- log (n + n)`. -/
def logPart (n : ℕ) : ℝ := -Real.log (n + n)

/-- The logarithms of the masses: one part in `n + n` each, the dustbin `n` parts. -/
def mass (n : ℕ) (i : Fin (n + 1)) : ℝ := if i.val < n then logPart n else Real.log n + logPart n

/-- The result at a row and a column: the padded score plus the potentials after `k` iterations, less the normalisation. -/
def result {n : ℕ} (k : ℕ) (S : Fin n → Fin n → EReal) (a : EReal) (i j : Fin (n + 1)) : EReal :=
  pad S a i j + ((pots (fun i j => weight (pad S a i j)) (mass n) k).1 i : EReal)
    + ((pots (fun i j => weight (pad S a i j)) (mass n) k).2 j : EReal) - (logPart n : EReal)

/-! ## Weights -/

/-- A score's weight is not negative, -/
theorem weight_nonneg (s : EReal) : 0 ≤ weight s := by
  induction s using EReal.rec with
  | bot => simp [weight]
  | top => simp [weight]
  | coe r => simpa [weight] using (Real.exp_pos r).le

/-- a finite score's is its exponential, -/
theorem weight_coe (r : ℝ) : weight (r : EReal) = Real.exp r := by simp [weight]

/-- and the exponential of a score, not `⊤`, with a finite number added is its weight times that number's exponential. -/
theorem exp_add {s : EReal} (hs : s ≠ ⊤) (t : ℝ) : Ideal.exp (s + (t : EReal)) = ((weight s * Real.exp t : ℝ) : EReal) := by
  induction s using EReal.rec with
  | bot => simp [weight]
  | top => exact absurd rfl hs
  | coe r => rw [← EReal.coe_add, Ideal.exp_coe, weight_coe, Real.exp_add]

/-- The same with a finite number taken off. -/
theorem exp_sub {s : EReal} (hs : s ≠ ⊤) (t : ℝ) : Ideal.exp (s - (t : EReal)) = ((weight s * Real.exp (-t) : ℝ) : EReal) := by
  rw [sub_eq_add_neg, ← EReal.coe_neg, exp_add hs]

/-- The logarithm of a positive number. -/
theorem log_pos {r : ℝ} (h : 0 < r) : Ideal.log (r : EReal) = (Real.log r : EReal) := by
  rw [Ideal.log_coe, if_neg (not_le.mpr h)]

/-- A sum of real numbers is the same sum among the extended ones. -/
theorem coe_sum {ι : Type*} (s : Finset ι) (f : ι → ℝ) : ∑ i ∈ s, (f i : EReal) = ((∑ i ∈ s, f i : ℝ) : EReal) :=
  (map_sum (⟨⟨fun r : ℝ => (r : EReal), rfl⟩, EReal.coe_add⟩ : ℝ →+ EReal) f s).symm

/-- The largest of finitely many extended numbers, none `⊤` and not all `⊥`, is a real number. -/
theorem exists_top {ι : Type*} [Fintype ι] (f : ι → EReal) (ht : ∀ i, f i ≠ ⊤) (hb : ∃ i, f i ≠ ⊥) :
    ∃ t : ℝ, Finset.univ.fold max ⊥ f = (t : EReal) := by
  have h1 : Finset.univ.fold max ⊥ f ≠ ⊤ :=
    ((Finset.fold_max_lt ⊤).mpr ⟨bot_lt_top, fun i _ => lt_top_iff_ne_top.mpr (ht i)⟩).ne
  have h2 : Finset.univ.fold max ⊥ f ≠ ⊥ := by
    obtain ⟨i, hi⟩ := hb
    exact ((Finset.lt_fold_max ⊥).mpr (.inr ⟨i, Finset.mem_univ i, bot_lt_iff_ne_bot.mpr hi⟩)).ne'
  exact ⟨_, (EReal.coe_toReal h1 h2).symm⟩

/-- The largest of finitely many real numbers, at least one, is a real number. -/
theorem exists_top_coe {ι : Type*} [Fintype ι] [Nonempty ι] (f : ι → ℝ) :
    ∃ t : ℝ, Finset.univ.fold max ⊥ (fun i => (f i : EReal)) = (t : EReal) :=
  exists_top _ (fun _ => EReal.coe_ne_top _) ⟨Classical.arbitrary ι, EReal.coe_ne_bot _⟩

/-! ## One half of an iteration, as each program computes it -/

/-- A sum with a positive number added to non-negative ones is positive. -/
theorem sum_add_pos {ι : Type*} (s : Finset ι) (f : ι → ℝ) (hf : ∀ i, 0 ≤ f i) {r : ℝ} (hr : 0 < r) : 0 < ∑ i ∈ s, f i + r :=
  add_pos_of_nonneg_of_pos (Finset.sum_nonneg fun i _ => hf i) hr

/-- The common ending: a potential computed with the shift `t` taken out of its sum `s` is the one without. -/
theorem unshift (mu t s : ℝ) (hs : 0 < s) :
    (mu : EReal) - ((t : EReal) + Ideal.log ((s * Real.exp (-t) : ℝ) : EReal)) = ((mu - Real.log s : ℝ) : EReal) := by
  rw [log_pos (mul_pos hs (Real.exp_pos _)), Real.log_mul hs.ne' (Real.exp_pos _).ne', Real.log_exp, ← EReal.coe_add, ← EReal.coe_sub]
  congr 1; ring

/-- The kernel's row potential: the row's scores shifted by `c`, the column potentials by `t`. -/
theorem kernel_row {n : ℕ} (S : Fin n → EReal) (hS : ∀ j, S j ≠ ⊤) (V : Fin n → ℝ) (mu a vl c t : ℝ) :
    (mu : EReal) - ((c : EReal) + (t : EReal)
        + Ideal.log (∑ j, Ideal.exp (S j - (c : EReal)) * Ideal.exp ((V j : EReal) - (t : EReal))
          + Ideal.exp ((a : EReal) + (vl : EReal) - (c : EReal) - (t : EReal))))
      = ((mu - Real.log (∑ j, weight (S j) * Real.exp (V j) + Real.exp a * Real.exp vl) : ℝ) : EReal) := by
  rw [← unshift mu (c + t) _ (sum_add_pos _ _ (fun j => mul_nonneg (weight_nonneg _) (Real.exp_pos _).le)
    (mul_pos (Real.exp_pos _) (Real.exp_pos _))), EReal.coe_add]
  congr 3
  simp_rw [exp_sub (hS _), ← EReal.coe_sub, ← EReal.coe_add, ← EReal.coe_sub, Ideal.exp_coe, ← EReal.coe_mul]
  rw [coe_sum, ← EReal.coe_add, add_mul, Finset.sum_mul]
  congr 2
  · refine Finset.sum_congr rfl fun j _ => ?_
    rw [sub_eq_add_neg, Real.exp_add, neg_add, Real.exp_add]; ring
  · rw [← Real.exp_add, ← Real.exp_add]; congr 1; ring

/-- The kernel's column potential: each row's scores shifted by its own `c`, the row potentials with those by `t`. -/
theorem kernel_col {n : ℕ} (S : Fin n → EReal) (hS : ∀ j, S j ≠ ⊤) (U c : Fin n → ℝ) (mu a ul t : ℝ) :
    (mu : EReal) - ((t : EReal)
        + Ideal.log (∑ i, Ideal.exp (S i - (c i : EReal)) * Ideal.exp ((c i : EReal) + (U i : EReal) - (t : EReal))
          + Ideal.exp ((a : EReal) + (ul : EReal) - (t : EReal))))
      = ((mu - Real.log (∑ i, weight (S i) * Real.exp (U i) + Real.exp a * Real.exp ul) : ℝ) : EReal) := by
  rw [← unshift mu t _ (sum_add_pos _ _ (fun j => mul_nonneg (weight_nonneg _) (Real.exp_pos _).le)
    (mul_pos (Real.exp_pos _) (Real.exp_pos _)))]
  congr 3
  simp_rw [exp_sub (hS _), ← EReal.coe_add, ← EReal.coe_sub, Ideal.exp_coe, ← EReal.coe_mul]
  rw [coe_sum, ← EReal.coe_add, add_mul, Finset.sum_mul]
  congr 2
  · refine Finset.sum_congr rfl fun j _ => ?_
    rw [mul_assoc, mul_assoc, ← Real.exp_add, ← Real.exp_add]; congr 2; ring
  · rw [← Real.exp_add, ← Real.exp_add]; congr 1

/-- The kernel's dustbin potential, the dustbin's score `a` taken off at the end. -/
theorem kernel_bin {n : ℕ} (V : Fin n → ℝ) (mu a vl t : ℝ) :
    (mu : EReal) - (a : EReal) - ((t : EReal)
        + Ideal.log (∑ j, Ideal.exp ((V j : EReal) - (t : EReal)) + Ideal.exp ((vl : EReal) - (t : EReal))))
      = ((mu - Real.log (∑ j, Real.exp a * Real.exp (V j) + Real.exp a * Real.exp vl) : ℝ) : EReal) := by
  have h : 0 < ∑ j, Real.exp (V j) + Real.exp vl := sum_add_pos _ _ (fun j => (Real.exp_pos _).le) (Real.exp_pos _)
  rw [← Finset.mul_sum, ← mul_add, Real.log_mul (Real.exp_pos _).ne' h.ne', Real.log_exp, ← sub_sub, ← unshift _ t _ h, EReal.coe_sub]
  congr 3
  simp_rw [← EReal.coe_sub, Ideal.exp_coe]
  rw [coe_sum, ← EReal.coe_add, add_mul, Finset.sum_mul]
  simp_rw [← Real.exp_add, ← sub_eq_add_neg]

/-- The reference's potential: the padded scores with the other side's potentials, shifted by `t`. -/
theorem reference_pot {n : ℕ} (S : Fin n → EReal) (hS : ∀ j, S j ≠ ⊤) (V : Fin n → ℝ) (mu t : ℝ) (hp : 0 < ∑ j, weight (S j) * Real.exp (V j)) :
    (mu : EReal) - (Ideal.log (∑ j, Ideal.exp (S j + (V j : EReal) - (t : EReal))) + (t : EReal))
      = ((mu - Real.log (∑ j, weight (S j) * Real.exp (V j)) : ℝ) : EReal) := by
  rw [← unshift mu t _ hp, add_comm (t : EReal)]
  congr 3
  rw [Finset.sum_mul, ← coe_sum]
  refine Finset.sum_congr rfl fun j _ => ?_
  rw [sub_eq_add_neg, add_assoc, ← EReal.coe_neg, ← EReal.coe_add, exp_add (hS j), mul_assoc, Real.exp_add]

/-! ## The padded iteration, its last row and column apart -/

variable {n : ℕ} (S : Fin n → Fin n → EReal)

/-- The padded scores inside are the scores, -/
theorem pad_inner (a : EReal) (i j : Fin n) : pad S a i.castSucc j.castSucc = S i j := by simp [pad]
/-- in the last row the dustbin score, -/
theorem pad_last_row (a : EReal) (j : Fin (n + 1)) : pad S a (Fin.last n) j = a := by simp [pad]
/-- and in the last column too. -/
theorem pad_last_col (a : EReal) (i : Fin (n + 1)) : pad S a i (Fin.last n) = a := by simp [pad]

/-- Padded scores are not `⊤` when the scores and the dustbin score are not. -/
theorem pad_ne_top (hS : ∀ i j, S i j ≠ ⊤) (a : ℝ) (i j : Fin (n + 1)) : pad S a i j ≠ ⊤ := by
  unfold pad; split
  · split
    · exact hS _ _
    · exact EReal.coe_ne_top a
  · exact EReal.coe_ne_top a

/-- Every row of padded weights has a positive sum against positive factors, -/
theorem row_pos (a : ℝ) (V : Fin (n + 1) → ℝ) (i : Fin (n + 1)) : 0 < ∑ j, weight (pad S a i j) * Real.exp (V j) := by
  rw [Fin.sum_univ_castSucc]
  refine sum_add_pos _ _ (fun j => mul_nonneg (weight_nonneg _) (Real.exp_pos _).le) ?_
  rw [pad_last_col, weight_coe]; positivity
/-- and every column. -/
theorem col_pos (a : ℝ) (U : Fin (n + 1) → ℝ) (j : Fin (n + 1)) : 0 < ∑ i, weight (pad S a i j) * Real.exp (U i) := by
  rw [Fin.sum_univ_castSucc]
  refine sum_add_pos _ _ (fun j => mul_nonneg (weight_nonneg _) (Real.exp_pos _).le) ?_
  rw [pad_last_row, weight_coe]; positivity

/-- A row potential of the padded weights, the dustbin column's part apart. -/
theorem rowPot_inner (a : ℝ) (V : Fin (n + 1) → ℝ) (i : Fin n) :
    rowPot (fun i j => weight (pad S a i j)) (mass n) V i.castSucc
      = logPart n - Real.log (∑ j, weight (S i j) * Real.exp (V j.castSucc) + Real.exp a * Real.exp (V (Fin.last n))) := by
  simp [rowPot, Fin.sum_univ_castSucc, pad_inner, pad_last_col, weight_coe, mass]
/-- The dustbin row's potential. -/
theorem rowPot_last (a : ℝ) (V : Fin (n + 1) → ℝ) :
    rowPot (fun i j => weight (pad S a i j)) (mass n) V (Fin.last n)
      = Real.log n + logPart n - Real.log (∑ j : Fin n, Real.exp a * Real.exp (V j.castSucc) + Real.exp a * Real.exp (V (Fin.last n))) := by
  simp [rowPot, Fin.sum_univ_castSucc, pad_last_row, weight_coe, mass]
/-- A column potential of the padded weights, the dustbin row's part apart. -/
theorem colPot_inner (a : ℝ) (U : Fin (n + 1) → ℝ) (j : Fin n) :
    colPot (fun i j => weight (pad S a i j)) (mass n) U j.castSucc
      = logPart n - Real.log (∑ i, weight (S i j) * Real.exp (U i.castSucc) + Real.exp a * Real.exp (U (Fin.last n))) := by
  simp [colPot, Fin.sum_univ_castSucc, pad_inner, pad_last_row, weight_coe, mass]
/-- The dustbin column's potential. -/
theorem colPot_last (a : ℝ) (U : Fin (n + 1) → ℝ) :
    colPot (fun i j => weight (pad S a i j)) (mass n) U (Fin.last n)
      = Real.log n + logPart n - Real.log (∑ i : Fin n, Real.exp a * Real.exp (U i.castSucc) + Real.exp a * Real.exp (U (Fin.last n))) := by
  simp [colPot, Fin.sum_univ_castSucc, pad_last_col, weight_coe, mass]

end Cert.Sinkhorn

end
-- ==== Proof.Consts.lean ====
/- The float constants the two programs spell, as the extended real numbers they denote. -/
module

public import Idealize.ShloMosaic.PureOps.Ideal

@[expose] public section

noncomputable section

namespace Cert.Sinkhorn

open Idealize.ShloMosaic

/-- The constant `2048.0`, the rows and columns together. -/
theorem ofBits_2048 : Ideal.ofBits .f32 0x45000000#32 = ((2048 : ℝ) : EReal) := by
  simp [Ideal.ofBits, Ideal.ieee, -EReal.coe_mul]; norm_num

/-- The constant `1024.0`, the rows or the columns. -/
theorem ofBits_1024 : Ideal.ofBits .f32 0x44800000#32 = ((1024 : ℝ) : EReal) := by
  simp [Ideal.ofBits, Ideal.ieee, -EReal.coe_mul]; norm_num

/-- The constant `1.0`. -/
theorem ofBits_1 : Ideal.ofBits .f32 0x3F800000#32 = ((1 : ℝ) : EReal) := by
  simp [Ideal.ofBits, Ideal.ieee, -EReal.coe_mul]; norm_num

/-- The least float, where a maximum starts. -/
theorem ofBits_bot : Ideal.ofBits .f32 0xFF800000#32 = ⊥ := by simp [Ideal.ofBits, Ideal.ieee]

/-- The greatest float. -/
theorem ofBits_top : Ideal.ofBits .f32 0x7F800000#32 = ⊤ := by simp [Ideal.ofBits, Ideal.ieee]

/-- A number whose absolute value is below the greatest is a real number. -/
theorem real_of_abs_lt {a : EReal} (h : max a (-a) < ⊤) : ∃ r : ℝ, a = (r : EReal) := by
  induction a using EReal.rec with
  | bot => simp at h
  | top => simp at h
  | coe r => exact ⟨r, rfl⟩

/-- The comparison of an absolute value with the greatest float, read back. -/
theorem real_of_finite {a : Ideal .f32}
    (h : FloatOps.cmpf .olt (FloatOps.absf a) (Ideal.ofBits .f32 0x7F800000#32 : Ideal .f32) = 1#1) : ∃ r : ℝ, a = (r : EReal) := by
  have h1 : Ideal.cmp .olt (max a (-a)) (Ideal.ofBits .f32 0x7F800000#32) = 1#1 := h
  rw [ofBits_top] at h1
  refine real_of_abs_lt (by_contra fun hn => ?_)
  rw [Ideal.cmp] at h1
  simp only [hn, decide_false] at h1
  exact absurd h1 (by decide)

end Cert.Sinkhorn

end
-- ==== Proof.KernelValue.lean ====
/- What the kernel computes over the extended real numbers: on a block of scores, none `⊤` and no row all `⊥`, and a finite
   dustbin score, every batch element's state is the real iteration's potentials and the block left is its result. -/
module

public import proofs.«01_k».proof.Proof.KernelStep
public import proofs.«01_k».proof.Proof.KernelRun
public import proofs.«01_k».proof.Proof.Potentials
public import proofs.«01_k».proof.Proof.Consts
public import Idealize.ShloMosaic.Lib.Pointwise

@[expose] public section

set_option maxRecDepth 16384

noncomputable section

namespace Cert.KernelIdeal

open Idealize.ShloMosaic Cert.Sinkhorn

/-! ## The pieces of an iteration, entry by entry -/

variable (a p n : Ideal .f32) (c : FVec Ideal S2x1024x1 .f32) (e : FVec Ideal S2x1024x1024 .f32)
  (u : FVec Ideal S2x1024x1 .f32) (ul : FVec Ideal S2x1x1 .f32) (v : FVec Ideal S2x1x1024 .f32) (vl : FVec Ideal S2x1x1 .f32) (b : Fin 2)

/-- A row potential, as the kernel computes it. -/
theorem uStep_apply (i : Fin 1024) : uStep a p c e v vl (ix3 b i 0)
    = p - (c (ix3 b i 0) + rowTop v (ix3 b 0 0)
        + Ideal.log (∑ j : Fin 1024, e (ix3 b i j) * Ideal.exp (v (ix3 b 0 j) - rowTop v (ix3 b 0 0))
          + Ideal.exp (a + vl (ix3 b 0 0) - c (ix3 b i 0) - rowTop v (ix3 b 0 0)))) := by
  pointwise [uStep]

/-- The dustbin row's potential, as the kernel computes it. -/
theorem ulStep_apply : ulStep a p n v vl (ix3 b 0 0)
    = n + p - a - (max (rowTop v (ix3 b 0 0)) (vl (ix3 b 0 0))
        + Ideal.log (∑ j : Fin 1024, Ideal.exp (v (ix3 b 0 j) - max (rowTop v (ix3 b 0 0)) (vl (ix3 b 0 0)))
          + Ideal.exp (vl (ix3 b 0 0) - max (rowTop v (ix3 b 0 0)) (vl (ix3 b 0 0))))) := by
  pointwise [ulStep]
  rw [Fin.sum_univ_one]

/-- A column potential, as the kernel computes it. -/
theorem vStep_apply (j : Fin 1024) : vStep a p c e u ul (ix3 b 0 j)
    = p - (colTop (addf c u) (ix3 b 0 0)
        + Ideal.log (∑ i : Fin 1024, e (ix3 b i j) * Ideal.exp (c (ix3 b i 0) + u (ix3 b i 0) - colTop (addf c u) (ix3 b 0 0))
          + Ideal.exp (a + ul (ix3 b 0 0) - colTop (addf c u) (ix3 b 0 0)))) := by
  pointwise [vStep]

/-- The dustbin column's potential, as the kernel computes it. -/
theorem vlStep_apply : vlStep a p n u ul (ix3 b 0 0)
    = n + p - a - (max (colTop u (ix3 b 0 0)) (ul (ix3 b 0 0))
        + Ideal.log (∑ i : Fin 1024, Ideal.exp (u (ix3 b i 0) - max (colTop u (ix3 b 0 0)) (ul (ix3 b 0 0)))
          + Ideal.exp (ul (ix3 b 0 0) - max (colTop u (ix3 b 0 0)) (ul (ix3 b 0 0))))) := by
  pointwise [vlStep]
  simp only [Fin.sum_univ_one]

/-- The largest of a batch element's real row of potentials is real. -/
theorem rowTop_real (V : Fin 1024 → ℝ) (h : ∀ j, v (ix3 b 0 j) = (V j : EReal)) : ∃ t : ℝ, rowTop v (ix3 b 0 0) = (t : EReal) := by
  obtain ⟨t, ht⟩ := exists_top_coe fun x : Fin 1 × Fin 1024 => V x.2
  refine ⟨t, Eq.trans ?_ ht⟩
  pointwise [rowTop]
  rw [ofBits_bot]
  refine Finset.fold_congr fun x _ => ?_
  rw [Subsingleton.elim x.1 0, h]

/-- The largest of a batch element's real column of potentials is real. -/
theorem colTop_real (U : Fin 1024 → ℝ) (h : ∀ i, u (ix3 b i 0) = (U i : EReal)) : ∃ t : ℝ, colTop u (ix3 b 0 0) = (t : EReal) := by
  obtain ⟨t, ht⟩ := exists_top_coe fun x : Fin 1024 × Fin 1 => U x.1
  refine ⟨t, Eq.trans ?_ ht⟩
  pointwise [colTop]
  rw [ofBits_bot]
  refine Finset.fold_congr fun x _ => ?_
  rw [Subsingleton.elim x.2 0, h]

/-! ## The constants -/

/-- The kernel's normalisation is `- log 2048`. -/
theorem norm_eq : Gen.k0_pay2 (F := Ideal) = ((logPart 1024 : ℝ) : EReal) := by
  have h : Gen.k0_pay2 (F := Ideal) = Ideal.ofBits .f32 0x00000000#32 - Ideal.log (Ideal.ofBits .f32 0x45000000#32) := rfl
  rw [h, Ideal.ofBits_zero_f32, ofBits_2048, log_pos (by norm_num), zero_sub, ← EReal.coe_neg]
  norm_num [logPart]

/-- The logarithm of the number of rows, -/
theorem log_rows : Gen.k0_pay3 (F := Ideal) = ((Real.log (1024 : ℕ) : ℝ) : EReal) := by
  have h : Gen.k0_pay3 (F := Ideal) = Ideal.log (Ideal.ofBits .f32 0x44800000#32) := rfl
  rw [h, ofBits_1024, log_pos (by norm_num)]
  norm_num

/-- and of the number of columns. -/
theorem log_cols : Gen.k0_pay4 (F := Ideal) = ((Real.log (1024 : ℕ) : ℝ) : EReal) := log_rows

/-! ## The state is the real iteration's -/

/-- Batch element `b` of the state `s` holds the real potentials `U` of the rows and `V` of the columns, the dustbin's last. -/
structure Holds (s : State Ideal) (b : Fin 2) (U V : Fin 1025 → ℝ) : Prop where
  u : ∀ i : Fin 1024, s.u (ix3 b i 0) = (U i.castSucc : EReal)
  ul : s.ul (ix3 b 0 0) = (U (Fin.last 1024) : EReal)
  v : ∀ j : Fin 1024, s.v (ix3 b 0 j) = (V j.castSucc : EReal)
  vl : s.vl (ix3 b 0 0) = (V (Fin.last 1024) : EReal)

/-- A batch element of a block of scores, by row and column. -/
def rows (x : FVec Ideal S2x1024x1024 .f32) (b : Fin 2) (i j : Fin 1024) : EReal := x (ix3 b i j)

variable (x : FVec Ideal S2x1024x1024 .f32) (r : ℝ)

/-- The largest score of a row is a real number. -/
theorem rowMax_real (hT : ∀ i j, rows x b i j ≠ ⊤) (hB : ∀ i, ∃ j, rows x b i j ≠ ⊥) (i : Fin 1024) :
    ∃ t : ℝ, Gen.k0_pay5 (F := Ideal) x (ix3 b i 0) = (t : EReal) := by
  obtain ⟨t, ht⟩ := exists_top (rows x b i) (hT i) (hB i)
  refine ⟨t, Eq.trans ?_ ht⟩
  pointwise [Gen.k0_pay5]
  rw [ofBits_bot]
  rfl

/-- A shifted exponential of the block. -/
theorem expBlock_apply (i j : Fin 1024) :
    Gen.k0_pay6 (F := Ideal) x (ix3 b i j) = Ideal.exp (rows x b i j - Gen.k0_pay5 (F := Ideal) x (ix3 b i 0)) := by
  pointwise [Gen.k0_pay6, rows]

/-- The weights of a batch element's scores, padded with the dustbin score `r`. -/
def weights (i j : Fin 1025) : ℝ := weight (pad (rows x b) (r : EReal) i j)

variable (hT : ∀ i j, rows x b i j ≠ ⊤) (hB : ∀ i, ∃ j, rows x b i j ≠ ⊥) (U V : Fin 1025 → ℝ)

include hT hB in
/-- From real column potentials the kernel's row potentials are the real ones, -/
theorem uStep_real (hv : ∀ j : Fin 1024, v (ix3 b 0 j) = (V j.castSucc : EReal)) (hvl : vl (ix3 b 0 0) = (V (Fin.last 1024) : EReal))
    (i : Fin 1024) : uStep (r : EReal) Gen.k0_pay2 (Gen.k0_pay5 x) (Gen.k0_pay6 x) v vl (ix3 b i 0)
      = (rowPot (weights b x r) (mass 1024) V i.castSucc : EReal) := by
  obtain ⟨t, ht⟩ := rowTop_real v b _ hv
  obtain ⟨c, hc⟩ := rowMax_real b x hT hB i
  rw [uStep_apply, ht, hc, norm_eq, hvl, show weights b x r = fun i j => weight (pad (rows x b) r i j) from rfl, rowPot_inner,
    ← kernel_row (rows x b i) (hT i) _ _ _ _ c t]
  simp only [hv, expBlock_apply, hc]

/-- its dustbin row's potential too. -/
theorem ulStep_real (hv : ∀ j : Fin 1024, v (ix3 b 0 j) = (V j.castSucc : EReal)) (hvl : vl (ix3 b 0 0) = (V (Fin.last 1024) : EReal)) :
    ulStep (r : EReal) Gen.k0_pay2 Gen.k0_pay4 v vl (ix3 b 0 0) = (rowPot (weights b x r) (mass 1024) V (Fin.last 1024) : EReal) := by
  obtain ⟨t, ht⟩ := rowTop_real v b _ hv
  rw [ulStep_apply, ht, norm_eq, log_cols, hvl, show weights b x r = fun i j => weight (pad (rows x b) r i j) from rfl, rowPot_last,
    ← EReal.coe_strictMono.monotone.map_max, ← EReal.coe_add, ← kernel_bin _ _ _ _ (max t (V (Fin.last 1024)))]
  simp only [hv]

include hT hB in
/-- From real row potentials the kernel's column potentials are the real ones, -/
theorem vStep_real (hu : ∀ i : Fin 1024, u (ix3 b i 0) = (U i.castSucc : EReal)) (hul : ul (ix3 b 0 0) = (U (Fin.last 1024) : EReal))
    (j : Fin 1024) : vStep (r : EReal) Gen.k0_pay2 (Gen.k0_pay5 x) (Gen.k0_pay6 x) u ul (ix3 b 0 j)
      = (colPot (weights b x r) (mass 1024) U j.castSucc : EReal) := by
  choose c hc using rowMax_real b x hT hB
  obtain ⟨t, ht⟩ := colTop_real (addf (Gen.k0_pay5 x) u) b (fun i => c i + U i.castSucc)
    fun i => by rw [addf_apply, hc, hu, Ideal.addf_def, ← EReal.coe_add]
  rw [vStep_apply, ht, norm_eq, hul, show weights b x r = fun i j => weight (pad (rows x b) r i j) from rfl, colPot_inner,
    ← kernel_col (fun i => rows x b i j) (fun i => hT i j) _ c _ _ _ t]
  simp only [hu, expBlock_apply, hc]

/-- its dustbin column's potential too. -/
theorem vlStep_real (hu : ∀ i : Fin 1024, u (ix3 b i 0) = (U i.castSucc : EReal)) (hul : ul (ix3 b 0 0) = (U (Fin.last 1024) : EReal)) :
    vlStep (r : EReal) Gen.k0_pay2 Gen.k0_pay3 u ul (ix3 b 0 0) = (colPot (weights b x r) (mass 1024) U (Fin.last 1024) : EReal) := by
  obtain ⟨t, ht⟩ := colTop_real u b _ hu
  rw [vlStep_apply, ht, norm_eq, log_rows, hul, show weights b x r = fun i j => weight (pad (rows x b) r i j) from rfl, colPot_last,
    ← EReal.coe_strictMono.monotone.map_max, ← EReal.coe_add, ← kernel_bin _ _ _ _ (max t (U (Fin.last 1024)))]
  simp only [hu]

include hT hB in
/-- One iteration of the kernel is one iteration on real numbers. -/
theorem Holds.step {s : State Ideal} {U V : Fin 1025 → ℝ} (h : Holds s b U V) :
    Holds (step x (r : EReal) s) b (rowPot (weights b x r) (mass 1024) V)
      (colPot (weights b x r) (mass 1024) (rowPot (weights b x r) (mass 1024) V)) :=
  have hu := uStep_real s.v s.vl b x r hT hB V h.v h.vl
  have hul := ulStep_real s.v s.vl b x r V h.v h.vl
  ⟨hu, hul, vStep_real _ _ b x r hT hB _ hu hul, vlStep_real _ _ b x r _ hu hul⟩

/-- Before the first iteration every potential is zero. -/
theorem holds_start : Holds start b 0 0 := by
  have h0 : (Scalar.ofBits .f32 0x00000000#32 : Ideal .f32) = (((0 : ℝ)) : EReal) := Ideal.ofBits_zero_f32
  exact ⟨fun _ => h0, h0, fun _ => h0, h0⟩

include hT hB in
/-- After `k` iterations the kernel holds the real iteration's potentials. -/
theorem holds_state (k : ℕ) :
    Holds (state x (r : EReal) k) b (pots (weights b x r) (mass 1024) k).1
      (pots (weights b x r) (mass 1024) k).2 := by
  induction k with
  | zero => exact holds_start b
  | succ k ih => exact Holds.step b x r hT hB ih

include hT hB in
/-- The block the kernel leaves, entry by entry: the result of ten iterations on its batch element. -/
theorem blockOut_apply (i j : Fin 1025) :
    blockOut x (r : EReal) (ix3 b i j) = result 10 (rows x b) (r : EReal) i j := by
  have h := holds_state b x r hT hB 10
  unfold weights at h
  unfold blockOut
  generalize state x (r : EReal) 10 = s at h
  unfold result
  generalize pots (fun i j => weight (pad (rows x b) r i j)) (mass 1024) 10 = q at h
  obtain ⟨U, V⟩ := q
  unfold blockOf
  induction i using Fin.lastCases with
  | last =>
    induction j using Fin.lastCases with
    | last =>
      rw [dif_neg (by simp), dif_neg (by simp), pad_last_row, ← norm_eq, ← h.ul, ← h.vl]
      pointwise [corner, Gen.k0_pay1]
    | cast j =>
      rw [dif_neg (by simp), dif_pos (by simp), pad_last_row, ← norm_eq, ← h.ul, ← h.v]
      pointwise [lastRow, Gen.k0_pay87]
      rfl
  | cast i =>
    induction j using Fin.lastCases with
    | last =>
      rw [dif_pos (by simp), dif_neg (by simp), pad_last_col, ← norm_eq, ← h.u, ← h.vl]
      pointwise [lastCol]
      rfl
    | cast j =>
      rw [dif_pos (by simp), dif_pos (by simp), pad_inner, ← norm_eq, ← h.u, ← h.v]
      pointwise [inner, Gen.k0_pay85, rows]
      rfl

end Cert.KernelIdeal

end
-- ==== Proof.KernelArray.lean ====
/- The kernel's result array: every block left by the body, put together, is the result of ten iterations on every batch
   element of the scores. -/
module

public import proofs.«01_k».proof.Proof.KernelFrame
public import proofs.«01_k».proof.Proof.KernelValue
public import Idealize.ShloMosaic.Lib.Pipeline.ValueKit
public import Idealize.ShloMosaic.Lib.Pointwise

@[expose] public section

set_option maxRecDepth 16384

noncomputable section

namespace Cert.KernelIdeal

open Idealize.ShloMosaic Idealize.ShloMosaic.TcCoe Cert.Sinkhorn
open Idealize.SL Idealize.SL.Sem

variable (m : (ℓ : Loc nD τ sig) → Buf (Elt Ideal) ℓ)

/-- The scores of one batch element at the launch, by row and column. -/
def scores (c : Dev nD) (b : Fin 4) (i j : Fin 1024) : EReal :=
  (m ((c : Thread nD τ).loc main_arg0) : Vec Ideal S4x1024x1024 .f32) (ix3 b i j)

/-- The dustbin score at the launch. -/
def alpha (c : Dev nD) : EReal := (m ((c : Thread nD τ).loc main_arg3) : Vec Ideal S_ .f32) ix0

/-- Where each window's block lies at a point. -/
theorem index_eq : ∀ t : Fin grid0.N, win0_0.index t = ![0, 0] ∧ win0_1.index t = ![t.val, 0, 0] ∧ win0_2.index t = ![t.val, 0, 0] := by
  decide +kernel

/-- The dustbin score's block at a point is the dustbin score. -/
theorem alpha_block (c : Dev nD) (t : Fin cfg0.N) : (Gen.iblk m c 0 t : Vec Ideal S1x1 .f32) (ix2 0 0) = alpha m c := by
  blk_simp [Gen.iblk]
  entry_read
  pointwise [alpha]

/-- The scores' block at a point, by batch element. -/
theorem scores_block (c : Dev nD) (t : Fin cfg0.N) (b : Fin 2) (h : 2 * t.val + b.val < 4) :
    rows (Gen.iblk m c 1 t : Vec Ideal S2x1024x1024 .f32) b = scores m c ⟨2 * t.val + b.val, h⟩ := by
  funext i j
  unfold rows scores
  blk_ext [Gen.iblk, (index_eq t).2.1]

/-- The array of the results of ten iterations on every batch element. -/
def results (c : Dev nD) : Vec Ideal S4x1025x1025 .f32 := fun y => result 10 (scores m c (y 0)) (alpha m c) (y 1) (y 2)

/-- An entry of the block the body leaves at a point is the result array's at the block's place. -/
theorem block_entry (c : Dev nD) (r : ℝ) (ha : alpha m c = (r : EReal)) (hT : ∀ b i j, scores m c b i j ≠ ⊤)
    (hB : ∀ b i, ∃ j, scores m c b i j ≠ ⊥) (t : Fin cfg0.N) (b : Fin 2) (i j : Fin 1025) :
    blockOut (Gen.iblk m c 1 t : Vec Ideal S2x1024x1024 .f32) (r : EReal) (ix3 b i j)
      = results m c ((win0_2.blk t).view.emb (ix3 b i j)) := by
  have ht : t.val < 2 := t.isLt
  have hb : 2 * t.val + b.val < 4 := by have := b.isLt; omega
  have hz : (win0_2.blk t).view.emb (ix3 b i j) = (ix3 ⟨2 * t.val + b.val, hb⟩ i j : S4x1025x1025.Idx) := by
    blk_ext [(index_eq t).2.2]
  rw [hz, blockOut_apply b (Gen.iblk m c 1 t) r (by rw [scores_block m c t b hb]; exact hT _)
    (by rw [scores_block m c t b hb]; exact hB _) i j, scores_block m c t b hb, ← ha]
  rfl

/-- The kernel's result array after its last point, the scores not `⊤`, no row of them all `⊥`, and the dustbin score finite. -/
theorem out_array (c : Dev nD) (r : ℝ) (ha : alpha m c = (r : EReal)) (hT : ∀ b i j, scores m c b i j ≠ ⊤)
    (hB : ∀ b i, ∃ j, scores m c b i j ≠ ⊥) : (dats m 0 c).arrAt 2 (cfgs 0).N = results m c := by
  refine (dats m 0 c).arrAt_eq_of_covers 2 _ (by decide +kernel) fun t hf y => ?_
  blk_simp
  rw [after_out, alpha_block, ha]
  have hy : (y : S2x1025x1025.Idx) = ix3 (y 0) (y 1) (y 2) := funext fun a => match a with | 0 => rfl | 1 => rfl | 2 => rfl
  rw [hy]
  exact block_entry m c r ha hT hB t (y 0) (y 1) (y 2)

end Cert.KernelIdeal

end
-- ==== Proof.ReferenceStep.lean ====
/- The reference's result in a compact form: the two halves of an iteration as functions of an array of potentials, the ten
   iterations as iterates of them, and the run's composed term as the padded scores plus the last potentials. -/
module

public import proofs.«01_k».proof.Proof.Gen.ReferenceIdeal.Run

@[expose] public section

set_option maxRecDepth 16384

noncomputable section

namespace Cert.ReferenceIdeal

open Idealize.ShloMosaic Idealize.ShloMosaic.TcCoe Idealize.SL.Sem Idealize.ShloMosaic.StableHlo

variable {F : FTy → Type} [FloatOps F]

/-- Row potentials repeated along their rows. -/
def alongRows (u : FVec F S4x1025 .f32) : FVec F S4x1025x1025 .f32 :=
  broadcastInDim S4x1025x1025 ![0, 1, 2] Gen.bcast_S4x1025x1_S4x1025x1025_0_1_2 (broadcastInDim S4x1025x1 ![0, 1] Gen.bcast_S4x1025_S4x1025x1_0_1 u)

/-- Column potentials repeated along their columns. -/
def alongCols (v : FVec F S4x1025 .f32) : FVec F S4x1025x1025 .f32 :=
  broadcastInDim S4x1025x1025 ![0, 1, 2] Gen.bcast_S4x1x1025_S4x1025x1025_0_1_2 (broadcastInDim S4x1x1025 ![0, 2] Gen.bcast_S4x1025_S4x1x1025_0_2 v)

/-- The number zero in every place. -/
def zeros : FVec F S4x1025 .f32 := broadcastInDim S4x1025 ![] Gen.bcast_S_S4x1025 (constant S_ .f32 0x00000000#32)

/-- A largest element where it is finite, zero where it is not. -/
def guarded (t : FVec F S4x1025 .f32) : FVec F S4x1025 .f32 :=
  select (cmpf .olt (Host.absf t) (broadcastInDim S4x1025 ![] Gen.bcast_S_S4x1025 (constant S_ .f32 0x7F800000#32))) t
    (broadcastInDim S4x1025 ![] Gen.bcast_S_S4x1025 (id (constant S_ .f32 0x00000000#32)))

/-- What each row is shifted by: its largest element, guarded. -/
def rowShift (z : FVec F S4x1025x1025 .f32) : FVec F S4x1025 .f32 :=
  guarded (Host.reduce FloatOps.maximumf z (constant S_ .f32 0xFF800000#32) Gen.reducesTo_S4x1025x1025_S4x1025_d2 Gen.h_S_)

/-- What each column is shifted by: its largest element, guarded. -/
def colShift (z : FVec F S4x1025x1025 .f32) : FVec F S4x1025 .f32 :=
  guarded (Host.reduce FloatOps.maximumf z (constant S_ .f32 0xFF800000#32) Gen.reducesTo_S4x1025x1025_S4x1025_d1 Gen.h_S_)

/-- The row potentials: the masses' logarithms less each row's logarithm of the sum of exponentials. -/
def rowHalf (mu : FVec F S4x1025 .f32) (z : FVec F S4x1025x1025 .f32) : FVec F S4x1025 .f32 :=
  subf mu (addf (Host.log (Host.reduceAdd (Host.exp (subf z (alongRows (rowShift z)))) (constant S_ .f32 0x00000000#32)
    Gen.reducesTo_S4x1025x1025_S4x1025_d2 Gen.h_S_)) (rowShift z))

/-- The column potentials: the masses' logarithms less each column's logarithm of the sum of exponentials. -/
def colHalf (nu : FVec F S4x1025 .f32) (z : FVec F S4x1025x1025 .f32) : FVec F S4x1025 .f32 :=
  subf nu (addf (Host.log (Host.reduceAdd (Host.exp (subf z (alongCols (colShift z)))) (constant S_ .f32 0x00000000#32)
    Gen.reducesTo_S4x1025x1025_S4x1025_d1 Gen.h_S_)) (colShift z))

variable (S : FVec F S4x1025x1025 .f32) (mu nu : FVec F S4x1025 .f32)

/-- The row potentials that follow from the column potentials `v`. -/
def rowsOf (v : FVec F S4x1025 .f32) : FVec F S4x1025 .f32 := rowHalf mu (addf S (alongCols v))

/-- The column potentials that follow from the row potentials `u`. -/
def colsOf (u : FVec F S4x1025 .f32) : FVec F S4x1025 .f32 := colHalf nu (addf S (alongRows u))

/-- The column potentials after `k` iterations, from zero. -/
def colsAt : ℕ → FVec F S4x1025 .f32
  | 0 => zeros
  | k + 1 => colsOf S nu (rowsOf S mu (colsAt k))

/-- The padded scores plus both potentials after `k + 1` iterations, less the normalisation. -/
def resultOf (nrm : FVec F S4 .f32) (k : ℕ) : FVec F S4x1025x1025 .f32 :=
  subf (addf (addf S (alongRows (rowsOf S mu (colsAt S mu nu k)))) (alongCols (colsAt S mu nu (k + 1))))
    (broadcastInDim S4x1025x1025 ![0, 1, 2] Gen.bcast_S4x1x1_S4x1025x1025_0_1_2 (broadcastInDim S4x1x1 ![0] Gen.bcast_S4_S4x1x1_0 nrm))

variable (m : (ℓ : Loc nD τ sig) → Buf (Elt F) ℓ) (ρ : Dev nD → PrngReg)

open Value in
/-- Every run of the reference ends with its result at that compact form and its arguments unchanged. -/
theorem run : θ_run defs (onTc (τ := τ) (main (F := F))) ⟨m, fun _ => 0, ρ⟩ fun r => ∀ c : Dev nD,
      r.2.mem ((c.tc : Thread nD τ).loc main_v367) = resultOf (res_main_v15 (launchContents m c)) (res_main_v29 (launchContents m c))
        (res_main_v36 (launchContents m c)) (res_main_v22 (launchContents m c)) 9
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Value.run m ρ

end Cert.ReferenceIdeal

end
-- ==== Proof.ReferenceInputs.lean ====
/- What the reference makes of its arguments before it iterates: the padded scores, the normalisation and the logarithms of
   the masses, where both masks are true everywhere. -/
module

public import proofs.«01_k».proof.Proof.ReferenceStep
public import proofs.«01_k».proof.Proof.Potentials
public import proofs.«01_k».proof.Proof.Consts
public import Idealize.ShloMosaic.Lib.Pointwise

@[expose] public section

set_option maxRecDepth 16384

noncomputable section

namespace Cert.ReferenceIdeal

open Idealize.ShloMosaic Cert.Sinkhorn

/-- The places that a mask leaves out: where it is false, and never the dustbin. -/
def leftOut (p : IVec S4x1024 1) : IVec S4x1025 1 :=
  concatenate S4x1025 1 [⟨S4x1024, noti p⟩, ⟨S4x1, broadcastInDim S4x1 ![] Gen.bcast_S_S4x1 (constantI S_ 1 0#1)⟩]
    Gen.concatenates_S4x1024_S4x1_S4x1025_d1

/-- How many places a mask keeps. -/
def kept (p : IVec S4x1024 1) : FVec Ideal S4 .f32 :=
  Host.reduceAdd (uitofp .f32 p) (constant S_ .f32 0x00000000#32) Gen.reducesTo_S4x1024_S4_d1 Gen.h_S_

/-- The normalisation. -/
def normOf (p q : IVec S4x1024 1) : FVec Ideal S4 .f32 := Host.negf (Host.log (addf (kept p) (kept q)))

/-- The logarithms of one side's masses: the mask `o` of the places left out, the other side's count `n`, the normalisation. -/
def massOf (o : IVec S4x1025 1) (n nrm : FVec Ideal S4 .f32) : FVec Ideal S4x1025 .f32 :=
  select o (broadcastInDim S4x1025 ![] Gen.bcast_S_S4x1025 (id (constant S_ .f32 0xD368D4A5#32)))
    (concatenate S4x1025 1
      [⟨S4x1024, broadcastInDim S4x1024 ![0, 1] Gen.bcast_S4x1_S4x1024_0_1 (broadcastInDim S4x1 ![0] Gen.bcast_S4_S4x1_0 nrm)⟩,
        ⟨S4x1, broadcastInDim S4x1 ![0] Gen.bcast_S4_S4x1_0 (addf (Host.log n) nrm)⟩] Gen.concatenates_S4x1024_S4x1_S4x1025_d1)

/-- The scores with the dustbin column and row. -/
def framed (x : FVec Ideal S4x1024x1024 .f32) (a : FVec Ideal S_ .f32) : FVec Ideal S4x1025x1025 .f32 :=
  concatenate S4x1025x1025 1
    [⟨S4x1024x1025, concatenate S4x1024x1025 2 [⟨S4x1024x1024, x⟩, ⟨S4x1024x1, broadcastInDim S4x1024x1 ![] Gen.bcast_S_S4x1024x1 a⟩]
        Gen.concatenates_S4x1024x1024_S4x1024x1_S4x1024x1025_d2⟩,
      ⟨S4x1x1025, broadcastInDim S4x1x1025 ![] Gen.bcast_S_S4x1x1025 a⟩] Gen.concatenates_S4x1024x1025_S4x1x1025_S4x1025x1025_d1

/-- The same, with a very small score in the places left out. -/
def padded (x : FVec Ideal S4x1024x1024 .f32) (o o' : IVec S4x1025 1) (a : FVec Ideal S_ .f32) : FVec Ideal S4x1025x1025 .f32 :=
  select (ori
      (broadcastInDim S4x1025x1025 ![0, 1, 2] Gen.bcast_S4x1025x1_S4x1025x1025_0_1_2 (broadcastInDim S4x1025x1 ![0, 1] Gen.bcast_S4x1025_S4x1025x1_0_1 o))
      (broadcastInDim S4x1025x1025 ![0, 1, 2] Gen.bcast_S4x1x1025_S4x1025x1025_0_1_2 (broadcastInDim S4x1x1025 ![0, 2] Gen.bcast_S4x1025_S4x1x1025_0_2 o')))
    (broadcastInDim S4x1025x1025 ![] Gen.bcast_S_S4x1025x1025 (id (constant S_ .f32 0xD368D4A5#32))) (framed x a)

/-! ## Entry by entry, the masks true everywhere -/

variable (p q : IVec S4x1024 1) (hp : ∀ y, p y = 1#1) (hq : ∀ y, q y = 1#1) (b : Fin 4)

/-- A choice by a bit that is off. -/
theorem select_off {s : Shape} {α : Type} (o : IVec s 1) (x z : s.Idx → α) (y : s.Idx) (h : o y = 0#1) : select o x z y = z y :=
  (congrArg (fun c => Scalar.select c (x y) (z y)) h).trans (ValueIdx.select_zero _ _)

/-- A vector of 1024 with one entry more. -/
theorem join_apply {α : Type} (x : S4x1024.Idx → α) (y : S4x1.Idx → α) (i : Fin 1025) :
    concatenate S4x1025 1 [⟨S4x1024, x⟩, ⟨S4x1, y⟩] Gen.concatenates_S4x1024_S4x1_S4x1025_d1 (ix2 b i)
      = if h : i.val < 1024 then x (ix2 b ⟨i.val, h⟩) else y (ix2 b 0) := by
  pointwise []
  split
  · rfl
  · exact congrArg (fun k : Fin 1 => y (ix2 b k)) (Subsingleton.elim _ _)

include hp in
/-- Nothing is left out. -/
theorem leftOut_apply (i : Fin 1025) : leftOut p (ix2 b i) = 0#1 := by
  unfold leftOut
  rw [join_apply]
  split
  · have h (y : S4x1024.Idx) : noti p y = ~~~(p y) := rfl
    rw [h, hp]
    rfl
  · rfl

include hp in
/-- All 1024 places are kept. -/
theorem kept_apply : kept p (ix1 b) = ((1024 : ℝ) : EReal) := by
  pointwise [kept]
  simp only [hp]
  have h : (FloatOps.uitofp .f32 1#1 : Ideal .f32) = ((1 : ℝ) : EReal) := by
    show (((1#1 : BitVec 1).toNat : ℝ) : EReal) = ((1 : ℝ) : EReal)
    norm_num
  rw [h, coe_sum, Finset.sum_const, Finset.card_univ, Fintype.card_fin]
  norm_num

include hp hq in
/-- The normalisation is `- log 2048`. -/
theorem normOf_apply : normOf p q (ix1 b) = (logPart 1024 : EReal) := by
  have h : normOf p q (ix1 b) = -Ideal.log (kept p (ix1 b) + kept q (ix1 b)) := rfl
  rw [h, kept_apply p hp, kept_apply q hq, ← EReal.coe_add, log_pos (by norm_num), ← EReal.coe_neg]
  norm_num [logPart]

/-- The masses' logarithms where nothing is left out. -/
theorem massOf_apply (o : IVec S4x1025 1) (n nrm : FVec Ideal S4 .f32) (ho : ∀ i, o (ix2 b i) = 0#1) (hn : n (ix1 b) = ((1024 : ℝ) : EReal))
    (hm : nrm (ix1 b) = (logPart 1024 : EReal)) (i : Fin 1025) : massOf o n nrm (ix2 b i) = (mass 1024 i : EReal) := by
  unfold massOf
  rw [select_off _ _ _ _ (ho i), join_apply]
  unfold mass
  split
  · rw [← hm]
    pointwise []
  · rw [EReal.coe_add, ← hm, ← log_pos (by norm_num), show (((1024 : ℕ) : ℝ) : EReal) = n (ix1 b) from by rw [hn]; norm_num]
    pointwise []

/-- The framed scores are the padded scores of every batch element. -/
theorem framed_apply (x : FVec Ideal S4x1024x1024 .f32) (a : FVec Ideal S_ .f32) (i j : Fin 1025) :
    framed x a (ix3 b i j) = pad (fun i j => x (ix3 b i j)) (a ix0) i j := by
  unfold Sinkhorn.pad
  pointwise [framed]

/-- Where nothing is left out the padded scores are the framed ones. -/
theorem padded_apply (x : FVec Ideal S4x1024x1024 .f32) (o o' : IVec S4x1025 1) (a : FVec Ideal S_ .f32) (ho : ∀ i, o (ix2 b i) = 0#1)
    (ho' : ∀ i, o' (ix2 b i) = 0#1) (i j : Fin 1025) : padded x o o' a (ix3 b i j) = pad (fun i j => x (ix3 b i j)) (a ix0) i j := by
  rw [← framed_apply]
  unfold padded
  generalize framed x a = z
  pointwise []
  rw [ho, ho']
  rfl

end Cert.ReferenceIdeal

end
-- ==== Proof.ReferenceValue.lean ====
/- What the reference computes over the extended real numbers: on scores none `⊤`, a finite dustbin score and masks true
   everywhere, its result is that of ten iterations on every batch element. -/
module

public import proofs.«01_k».proof.Proof.ReferenceStep
public import proofs.«01_k».proof.Proof.Potentials
public import proofs.«01_k».proof.Proof.Consts
public import Idealize.ShloMosaic.Lib.Pointwise

@[expose] public section

set_option maxRecDepth 16384

noncomputable section

namespace Cert.ReferenceIdeal

open Idealize.ShloMosaic Cert.Sinkhorn

/-! ## The halves of an iteration, entry by entry -/

/-- What is guarded is a real number. -/
theorem guarded_real (t : FVec Ideal S4x1025 .f32) (b : Fin 4) (i : Fin 1025) : ∃ r : ℝ, guarded t (ix2 b i) = (r : EReal) := by
  have h : guarded t (ix2 b i) = Scalar.select (FloatOps.cmpf .olt (FloatOps.absf (t (ix2 b i))) (Ideal.ofBits .f32 0x7F800000#32 : Ideal .f32))
      (t (ix2 b i)) (Ideal.ofBits .f32 0x00000000#32) := rfl
  rw [h]
  by_cases hc : FloatOps.cmpf .olt (FloatOps.absf (t (ix2 b i))) (Ideal.ofBits .f32 0x7F800000#32 : Ideal .f32) = 1#1
  · obtain ⟨r, hr⟩ := real_of_finite hc
    exact ⟨r, by rw [hc, ValueIdx.select_one, hr]⟩
  · exact ⟨0, by rw [ValueIdx.eq_zero_of_ne_one hc, ValueIdx.select_zero, Ideal.ofBits_zero_f32]; rfl⟩

variable (S : FVec Ideal S4x1025x1025 .f32) (mu : FVec Ideal S4x1025 .f32) (u v : FVec Ideal S4x1025 .f32) (b : Fin 4)

/-- A row potential, as the reference computes it. -/
theorem rowsOf_apply (i : Fin 1025) : rowsOf S mu v (ix2 b i)
    = mu (ix2 b i) - (Ideal.log (∑ j : Fin 1025, Ideal.exp (S (ix3 b i j) + v (ix2 b j) - rowShift (addf S (alongCols v)) (ix2 b i)))
        + rowShift (addf S (alongCols v)) (ix2 b i)) := by
  pointwise [rowsOf, rowHalf, alongRows, alongCols]

/-- A column potential, as the reference computes it. -/
theorem colsOf_apply (j : Fin 1025) : colsOf S mu u (ix2 b j)
    = mu (ix2 b j) - (Ideal.log (∑ i : Fin 1025, Ideal.exp (S (ix3 b i j) + u (ix2 b i) - colShift (addf S (alongRows u)) (ix2 b j)))
        + colShift (addf S (alongRows u)) (ix2 b j)) := by
  pointwise [colsOf, colHalf, alongRows, alongCols]

/-- An entry of the result. -/
theorem resultOf_apply (nu : FVec Ideal S4x1025 .f32) (nrm : FVec Ideal S4 .f32) (k : ℕ) (i j : Fin 1025) :
    resultOf S mu nu nrm k (ix3 b i j)
      = S (ix3 b i j) + rowsOf S mu (colsAt S mu nu k) (ix2 b i) + colsAt S mu nu (k + 1) (ix2 b j) - nrm (ix1 b) := by
  pointwise [resultOf, alongRows, alongCols]

/-! ## The iterations are the real ones -/

variable (X : Fin 1024 → Fin 1024 → EReal) (r : ℝ) (hX : ∀ i j, X i j ≠ ⊤) (hS : ∀ i j, S (ix3 b i j) = pad X (r : EReal) i j)
  (nu : FVec Ideal S4x1025 .f32) (hmu : ∀ i, mu (ix2 b i) = (mass 1024 i : EReal)) (hnu : ∀ i, nu (ix2 b i) = (mass 1024 i : EReal))

include hX hS hmu in
/-- From real column potentials the reference's row potentials are the real ones, -/
theorem rowsOf_real (V : Fin 1025 → ℝ) (hv : ∀ j, v (ix2 b j) = (V j : EReal)) (i : Fin 1025) :
    rowsOf S mu v (ix2 b i) = (rowPot (fun i j => weight (pad X (r : EReal) i j)) (mass 1024) V i : EReal) := by
  obtain ⟨t, ht⟩ := guarded_real (Host.reduce FloatOps.maximumf (addf S (alongCols v)) (constant S_ .f32 0xFF800000#32)
    Gen.reducesTo_S4x1025x1025_S4x1025_d2 Gen.h_S_) b i
  rw [rowsOf_apply, show rowShift (addf S (alongCols v)) (ix2 b i) = (t : EReal) from ht, hmu]
  simp only [hS, hv]
  exact reference_pot _ (pad_ne_top X hX r i) V _ t (row_pos X r V i)

include hX hS hnu in
/-- and from real row potentials its column potentials. -/
theorem colsOf_real (U : Fin 1025 → ℝ) (hu : ∀ i, u (ix2 b i) = (U i : EReal)) (j : Fin 1025) :
    colsOf S nu u (ix2 b j) = (colPot (fun i j => weight (pad X (r : EReal) i j)) (mass 1024) U j : EReal) := by
  obtain ⟨t, ht⟩ := guarded_real (Host.reduce FloatOps.maximumf (addf S (alongRows u)) (constant S_ .f32 0xFF800000#32)
    Gen.reducesTo_S4x1025x1025_S4x1025_d1 Gen.h_S_) b j
  rw [colsOf_apply, show colShift (addf S (alongRows u)) (ix2 b j) = (t : EReal) from ht, hnu]
  simp only [hS, hu]
  exact reference_pot (fun i => pad X r i j) (fun i => pad_ne_top X hX r i j) U _ t (col_pos X r U j)

include hX hS hmu hnu in
/-- After `k` iterations the column potentials are the real iteration's. -/
theorem colsAt_real (k : ℕ) (j : Fin 1025) :
    colsAt S mu nu k (ix2 b j) = ((pots (fun i j => weight (pad X (r : EReal) i j)) (mass 1024) k).2 j : EReal) := by
  induction k generalizing j with
  | zero => exact Ideal.ofBits_zero_f32
  | succ k ih => exact colsOf_real S _ b X r hX hS nu hnu _ (rowsOf_real S mu _ b X r hX hS hmu _ ih) j

include hX hS hmu hnu in
/-- The compact form's entries are the result of the real iterations. -/
theorem resultOf_real (nrm : FVec Ideal S4 .f32) (hn : nrm (ix1 b) = (logPart 1024 : EReal)) (k : ℕ) (i j : Fin 1025) :
    resultOf S mu nu nrm k (ix3 b i j) = result (k + 1) X (r : EReal) i j := by
  rw [resultOf_apply, hS, hn, colsAt_real S mu b X r hX hS nu hmu hnu,
    rowsOf_real S mu _ b X r hX hS hmu _ (colsAt_real S mu b X r hX hS nu hmu hnu k)]
  rfl

end Cert.ReferenceIdeal

end
-- ==== Proof.Precondition.lean ====
/- What the precondition says of the arguments: no score is `⊤`, no row of scores is all `⊥`, the dustbin score is a real
   number and both masks are true everywhere. -/
module

public import proofs.«01_k».proof.Defs
public import proofs.«01_k».proof.Proof.Consts
public import Idealize.ShloMosaic.Lib.Pointwise
public import Idealize.ShloMosaic.Lib.ReduceAll

@[expose] public section

noncomputable section

namespace Cert.Pre_finite_unmasked

open Idealize.ShloMosaic Cert.Sinkhorn

/-- The shapes the precondition's operations take. -/
instance facts : Facts where
  reducesTo_S4x1024x1024_S4x1024_d2 := by decide
  h_S_ := by decide
  bcast_S_S4x1024 := by decide
  reducesTo_S4x1024_S_d0_1 := by decide

variable {x : FVec Ideal S4x1024x1024 .f32} {p q : IVec S4x1024 1} {a : FVec Ideal S_ .f32}

/-- A row's largest score, as the precondition computes it. -/
theorem top_apply (h : S4x1024x1024.ReducesTo [2] S4x1024) (hu : 0 < S_.numel) (b : Fin 4) (i : Fin 1024) :
    Host.reduce FloatOps.maximumf x (constant S_ .f32 0xFF800000#32) h hu (ix2 b i) = Finset.univ.fold max ⊥ fun j => x (ix3 b i j) := by
  pointwise []
  rw [ofBits_bot]

/-- The test of an array's entry, read back. -/
theorem finite_at (t : FVec Ideal S4x1024 .f32) (hb : S_.BroadcastsInDim S4x1024 ![]) (y : S4x1024.Idx)
    (e : cmpf .olt (Host.absf t) (broadcastInDim S4x1024 ![] hb (constant S_ .f32 0x7F800000#32)) y = 1#1) : ∃ r : ℝ, t y = (r : EReal) :=
  real_of_finite e

/-- The precondition's test of the rows: every row's largest score is a real number. -/
theorem top_real (h : S4x1024x1024.ReducesTo [2] S4x1024) (hu : 0 < S_.numel) (hb : S_.BroadcastsInDim S4x1024 ![]) (b : Fin 4) (i : Fin 1024)
    (e : cmpf .olt (Host.absf (Host.reduce FloatOps.maximumf x (constant S_ .f32 0xFF800000#32) h hu))
      (broadcastInDim S4x1024 ![] hb (constant S_ .f32 0x7F800000#32)) (ix2 b i) = 1#1) :
    ∃ r : ℝ, Finset.univ.fold max ⊥ (fun j => x (ix3 b i j)) = (r : EReal) := by
  obtain ⟨r, hr⟩ := finite_at _ hb _ e
  exact ⟨r, (top_apply h hu b i).symm.trans hr⟩

/-- A row whose largest score is a real number has no score `⊤`, -/
theorem ne_top_of_max {f : Fin 1024 → EReal} {r : ℝ} (hr : Finset.univ.fold max ⊥ f = (r : EReal)) (j : Fin 1024) : f j ≠ ⊤ := fun hj =>
  EReal.coe_ne_top r (hr.symm.trans (top_le_iff.1 (hj ▸ (Finset.le_fold_max (f j)).2 (.inr ⟨j, Finset.mem_univ j, le_rfl⟩))))

/-- and not every score `⊥`. -/
theorem exists_of_max {f : Fin 1024 → EReal} {r : ℝ} (hr : Finset.univ.fold max ⊥ f = (r : EReal)) : ∃ j, f j ≠ ⊥ := by
  by_contra hn
  have hn' : ∀ j, f j = ⊥ := fun j => not_not.1 fun hj => hn ⟨j, hj⟩
  exact EReal.coe_ne_bot r (hr.symm.trans (le_bot_iff.1 ((Finset.fold_max_le ⊥).2 ⟨le_rfl, fun j _ => (hn' j).le⟩)))

/-- The precondition's four tests, apart. -/
theorem tests (h : fn (F := Ideal) x p q a = fun _ => 1#1) :
    (∀ b i, ∃ r : ℝ, Finset.univ.fold max ⊥ (fun j => x (ix3 b i j)) = (r : EReal)) ∧ (∃ r : ℝ, a ix0 = (r : EReal))
      ∧ (∀ y, p y = 1#1) ∧ (∀ y, q y = 1#1) := by
  have h0 := congrFun h ix0
  dsimp only [fn] at h0
  rw [andi_apply, andi_apply, andi_apply, IntOp.andi_eq_one, IntOp.andi_eq_one, IntOp.andi_eq_one] at h0
  obtain ⟨⟨⟨hx, ha⟩, hp⟩, hq⟩ := h0
  have hs : Subsingleton S_.Idx := ⟨fun y z => (ValueIdx.eq_ix0 y).trans (ValueIdx.eq_ix0 z).symm⟩
  exact ⟨fun b i => top_real _ _ _ b i (Host.reduce_andi_all _ _ _ _ _ hx _), real_of_finite ha,
    Host.reduce_andi_all _ _ _ _ _ hp, Host.reduce_andi_all _ _ _ _ _ hq⟩

/-- What the precondition says: no score `⊤`, no row of scores all `⊥`, a real dustbin score and masks true everywhere. -/
theorem decode (h : fn (F := Ideal) x p q a = fun _ => 1#1) : (∀ b i j, x (ix3 b i j) ≠ ⊤) ∧ (∀ b i, ∃ j, x (ix3 b i j) ≠ ⊥)
    ∧ (∃ r : ℝ, a ix0 = (r : EReal)) ∧ (∀ y, p y = 1#1) ∧ (∀ y, q y = 1#1) := by
  obtain ⟨hx, ha, hp, hq⟩ := tests h
  exact ⟨fun b i j => (hx b i).elim fun _ hr => ne_top_of_max hr j, fun b i => (hx b i).elim fun _ hr => exists_of_max hr, ha, hp, hq⟩

end Cert.Pre_finite_unmasked

end
-- ==== Proof.lean ====
/- The certificate: the frames of the three programs, and the equation between the kernel's result and the reference's over
   the extended real numbers where no row or column is masked, no score is `⊤`, no row of scores is all `⊥` and the
   dustbin score is finite. -/
module

public import proofs.«01_k».proof.Defs
public import proofs.«01_k».proof.Proof.Gen.Kernel.Frame
public import proofs.«01_k».proof.Proof.KernelArray
public import proofs.«01_k».proof.Proof.ReferenceInputs
public import proofs.«01_k».proof.Proof.ReferenceValue
public import proofs.«01_k».proof.Proof.Precondition
public import Idealize.ShloMosaic.Lib.Claim
public import Idealize.ShloMosaic.Lib.Quiescent

@[expose] public section

noncomputable section

namespace Cert.Proof

open Idealize.ShloMosaic Idealize.ShloMosaic.TcCoe Idealize.SL.Sem Cert.Sinkhorn

/-- Every run of the reference ends with its arguments unchanged and every semaphore, there being none, at zero. -/
theorem reference_frame : Cert.quiescent_ReferenceIdeal := fun m g _ =>
  (θ_run ReferenceIdeal.defs _ _).mono (fun r h => ⟨fun c => (h c).2, sem_eq_zero_of_no_sems (by decide) r.2⟩) (ReferenceIdeal.run m g)

/-- The reference's result on arguments that meet the precondition, entry by entry: the result of ten iterations on every
    batch element of the scores. -/
theorem reference_result {x : FVec Ideal Pre_finite_unmasked.S4x1024x1024 .f32} {p q : IVec Pre_finite_unmasked.S4x1024 1}
    {a : FVec Ideal Pre_finite_unmasked.S_ .f32} (h : Pre_finite_unmasked.fn (F := Ideal) x p q a = fun _ => 1#1) (b : Fin 4) (i j : Fin 1025) :
    ReferenceIdeal.resultOf (ReferenceIdeal.padded x (ReferenceIdeal.leftOut p) (ReferenceIdeal.leftOut q) a)
      (ReferenceIdeal.massOf (ReferenceIdeal.leftOut p) (ReferenceIdeal.kept q) (ReferenceIdeal.normOf p q))
      (ReferenceIdeal.massOf (ReferenceIdeal.leftOut q) (ReferenceIdeal.kept p) (ReferenceIdeal.normOf p q))
      (ReferenceIdeal.normOf p q) 9 (ix3 b i j) = result 10 (fun i j => x (ix3 b i j)) (a ix0) i j := by
  obtain ⟨hT, -, ⟨r, hr⟩, hp, hq⟩ := Pre_finite_unmasked.decode h
  have hn := ReferenceIdeal.normOf_apply p q hp hq b
  have hP := ReferenceIdeal.leftOut_apply p hp b
  have hQ := ReferenceIdeal.leftOut_apply q hq b
  have hs := ReferenceIdeal.padded_apply b x (ReferenceIdeal.leftOut p) (ReferenceIdeal.leftOut q) a hP hQ
  rw [hr] at hs ⊢
  exact ReferenceIdeal.resultOf_real _ _ b _ r (hT b) hs _ (ReferenceIdeal.massOf_apply b _ _ _ hP (ReferenceIdeal.kept_apply q hq b) hn)
    (ReferenceIdeal.massOf_apply b _ _ _ hQ (ReferenceIdeal.kept_apply p hp b) hn) _ hn 9 i j

/-- From memories that agree on the arguments and meet the precondition, the kernel and the reference end with one result. -/
theorem equal : Cert.algebraic_KernelIdeal_ReferenceIdeal_pre_finite_unmasked := by
  intro m g m' g' hpre hagree
  refine ⟨fun c => KernelIdeal.results m c, ?_, ?_⟩
  · run_from (KernelIdeal.run m g) & (KernelIdeal.frame_run m g)
    obtain ⟨hT, hB, ⟨r, hr⟩, -, -⟩ := Pre_finite_unmasked.decode (hpre c)
    exact KernelIdeal.out_array m c r hr hT hB
  · refine (θ_run ReferenceIdeal.defs _ _).mono (fun r h c => ⟨(h c).1.trans ?_, (h c).2⟩) (ReferenceIdeal.run m' g')
    have hy (y : KernelIdeal.S4x1025x1025.Idx) : y = ix3 (y 0) (y 1) (y 2) := funext fun a => match a with | 0 => rfl | 1 => rfl | 2 => rfl
    have hc := hpre c
    have h0 := (hagree c).1
    have h3 := (hagree c).2.2.2
    rw [← h0, ← (hagree c).2.1, ← (hagree c).2.2.1, ← h3] at hc
    funext y
    rw [hy y]
    refine (reference_result hc (y 0) (y 1) (y 2)).trans ?_
    rw [h0, h3]
    rfl

/-- The kernel's body is the same text in both of its modules, so at every label it is the same program. -/
theorem body_eq : Kernel.defs₀ (F := Bits) = KernelIdeal.defs₀ (F := Bits) :=
  congrArg Defs.onTc (funext fun l => match l with
    | 0 => funext fun ⟨_, _⟩ => rfl)

/-- The two modules define one program at floats that are bit patterns. -/
theorem defs_eq : Kernel.defs (F := Bits) = KernelIdeal.defs (F := Bits) :=
  congrArg (Pipeline.defs (Kernel.pcfgs (F := Bits))) body_eq

/-- Every run of the kernel on bit patterns ends with its arguments unchanged and every semaphore at zero: the frame is
    proved for floats of any kind, and this is that proof read at bit patterns. -/
theorem kernel_frame : Cert.quiescent_Kernel := by
  intro m g _
  rw [defs_eq]
  exact KernelIdeal.frame_run (F := Bits) m g

/-- Everything the certificate claims. -/
theorem claim : Cert.Claim :=
  ⟨Cert.Kernel.Gen.facts, Cert.KernelIdeal.Gen.facts, Cert.ReferenceIdeal.Gen.facts, Cert.Pre_finite_unmasked.facts,
    kernel_frame, fun m g _ => Cert.KernelIdeal.frame_run m g, fun m g _ => Cert.KernelIdeal.frame_run m g,
    reference_frame, fun m g _ => reference_frame m g trivial, trivial, equal⟩

end Cert.Proof

end
